-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .bf16 0x3DB5#16 (((Real.sqrt 128)⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![16, 256, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![16, 256, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S_ : Shape := ⟨0, ![]⟩

class Facts : Prop where
  bitsLt_bf16_f32 : FTy.bits .bf16 < FTy.bits .f32
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x256x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1x256x1024 .f32 := (extf .f32 · bitsLt_bf16_f32) main_arg0
  let main_v1 : FVec F S1x256x1024 .f32 := Host.absf main_v0
  let main_cst : FVec F S_ .f32 := constant S_ .f32 0x7F800000#32
  let main_v2 : FVec F S1x256x1024 .f32 := broadcastInDim S1x256x1024 ![] bcast_S_S1x256x1024 main_cst
  let main_v3 : IVec S1x256x1024 1 := cmpf .olt main_v1 main_v2
  let main_c : IVec S_ 1 := constantI S_ 1 1#1
  let main_v4 : IVec S_ 1 := (fun x v => Host.reduce IntOp.andi x v reducesTo_S1x256x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1024x1024 .f32 := (extf .f32 · bitsLt_bf16_f32) main_arg2
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v10 main_v15
  main_v16
-- ==== Pre_scores_finite_ReferenceIdeal.lean ====
abbrev S16x256x1024 : Shape := ⟨3, ![16, 256, 1024]⟩
abbrev S1024x16384 : Shape := ⟨2, ![1024, 16384]⟩
abbrev S16384x1024 : Shape := ⟨2, ![16384, 1024]⟩
abbrev S_ : Shape := ⟨0, ![]⟩

class Facts : Prop where
  bitsLt_bf16_f32 : FTy.bits .bf16 < FTy.bits .f32
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S16x256x1024 .bf16) (main_arg1 : FVec F S1024x16384 .bf16) (main_arg2 : FVec F S1024x16384 .bf16) (main_arg3 : FVec F S1024x16384 .bf16) (main_arg4 : FVec F S16384x1024 .bf16) : IVec S_ 1 :=
  let main_v0 : FVec F S16x256x1024 .f32 := (extf .f32 · bitsLt_bf16_f32) main_arg0
  let main_v1 : FVec F S16x256x1024 .f32 := Host.absf main_v0
  let main_cst : FVec F S_ .f32 := constant S_ .f32 0x7F800000#32
  let main_v2 : FVec F S16x256x1024 .f32 := broadcastInDim S16x256x1024 ![] bcast_S_S16x256x1024 main_cst
  let main_v3 : IVec S16x256x1024 1 := cmpf .olt main_v1 main_v2
  let main_c : IVec S_ 1 := constantI S_ 1 1#1
  let main_v4 : IVec S_ 1 := (fun x v => Host.reduce IntOp.andi x v reducesTo_S16x256x1024_S_d0_1_2 h_S_) main_v3 main_c
  let main_v5 : FVec F S1024x16384 .f32 := (extf .f32 · bitsLt_bf16_f32) main_arg1
  let main_v6 : FVec F S1024x16384 .f32 := Host.absf main_v5
  let main_cst_0 : FVec F S_ .f32 := constant S_ .f32 0x7F800000#32
  let main_v7 : FVec F S1024x16384 .f32 := broadcastInDim S1024x16384 ![] bcast_S_S1024x16384 main_cst_0
  let main_v8 : IVec S1024x16384 1 := cmpf .olt main_v6 main_v7
  let main_c_1 : IVec S_ 1 := constantI S_ 1 1#1
  let main_v9 : IVec S_ 1 := (fun x v => Host.reduce IntOp.andi x v reducesTo_S1024x16384_S_d0_1 h_S_) main_v8 main_c_1
  let main_v10 : IVec S_ 1 := andi main_v4 main_v9
  let main_v11 : FVec F S1024x16384 .f32 := (extf .f32 · bitsLt_bf16_f32) main_arg2
  let main_v12 : FVec F S1024x16384 .f32 := Host.absf main_v11
  let main_cst_2 : FVec F S_ .f32 := constant S_ .f32 0x7F800000#32
  let main_v13 : FVec F S1024x16384 .f32 := broadcastInDim S1024x16384 ![] bcast_S_S1024x16384 main_cst_2
  let main_v14 : IVec S1024x16384 1 := cmpf .olt main_v12 main_v13
  let main_c_3 : IVec S_ 1 := constantI S_ 1 1#1
  let main_v15 : IVec S_ 1 := (fun x v => Host.reduce IntOp.andi x v reducesTo_S1024x16384_S_d0_1 h_S_) main_v14 main_c_3
  let main_v16 : IVec S_ 1 := andi main_v10 main_v15
  main_v16
-- ==== Kernel.lean ====
abbrev S1x256x1024 : Shape := ⟨3, ![1, 256, 1024]⟩
abbrev S1024x1024 : Shape := ⟨2, ![1024, 1024]⟩
abbrev S16x256x1024 : Shape := ⟨3, ![16, 256, 1024]⟩
abbrev S4x256x1024 : Shape := ⟨3, ![4, 256, 1024]⟩
abbrev S4x3x256x1024 : Shape := ⟨4, ![4, 3, 256, 1024]⟩
abbrev S3x256x1024 : Shape := ⟨3, ![3, 256, 1024]⟩
abbrev S3 : Shape := ⟨1, ![3]⟩
abbrev S4 : Shape := ⟨1, ![4]⟩
abbrev S4x3 : Shape := ⟨2, ![4, 3]⟩
abbrev S_ : Shape := ⟨0, ![]⟩
abbrev S256x1024 : Shape := ⟨2, ![256, 1024]⟩
abbrev S1 : Shape := ⟨1, ![1]⟩
abbrev S1x1 : Shape := ⟨2, ![1, 1]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x1x256x1024 : Shape := ⟨4, ![1, 1, 256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S16x256x1024, .bf16⟩
  | .local _ .vmem, ⟨7, _⟩ => ⟨S4x256x1024, .f32⟩
  | .local _ .vmem, ⟨8, _⟩ => ⟨S4x3x256x1024, .bf16⟩
  | .local _ .vmem, ⟨9, _⟩ => ⟨S4x3x256x1024, .bf16⟩
  | .local _ .vmem, ⟨10, _⟩ => ⟨S3x256x1024, .bf16⟩
  | .local _ .vmem, ⟨11, _⟩ => ⟨S3x256x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let c4_i32_18 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v31 : BitVec 32 := Scalar.addi v19 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.muli c4_i32_18 v41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v43 : BitVec 32 := Scalar.addi v42 v29
  let c1_i32_20 : BitVec 32 := 1#32
  let v44 : BitVec 32 := Scalar.muli v43 c1_i32_20
  let v45 : BitVec 32 := Scalar.addi c0_i32_21 v44
  v45.toNat
def k0_dev2 (d0 : Dev nD) : Nat :=
  let c0_i32_31 : BitVec 32 := 0#32
  let c4_i32_28 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v46 : BitVec 32 := Scalar.addi v19 c2_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.muli c4_i32_28 v56
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c1_i32_30 : BitVec 32 := 1#32
  let v59 : BitVec 32 := Scalar.muli v58 c1_i32_30
  let v60 : BitVec 32 := Scalar.addi c0_i32_31 v59
  v60.toNat
def k0_dev3 (d0 : Dev nD) : Nat :=
  let c0_i32_41 : BitVec 32 := 0#32
  let c4_i32_38 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v61 : BitVec 32 := Scalar.addi v19 c3_i32
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let v72 : BitVec 32 := Scalar.muli c4_i32_38 v71
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v73 : BitVec 32 := Scalar.addi v72 v29
  let c1_i32_40 : BitVec 32 := 1#32
  let v74 : BitVec 32 := Scalar.muli v73 c1_i32_40
  let v75 : BitVec 32 := Scalar.addi c0_i32_41 v74
  v75.toNat
def k0_dev4 (d0 : Dev nD) : Nat :=
  let c0_i32_53 : BitVec 32 := 0#32
  let c4_i32_42 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_42 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_43 : BitVec 32 := 1#32
  let v77 : BitVec 32 := Scalar.addi v29 c1_i32_43
  let c0_i32_44 : BitVec 32 := 0#32
  let v78 : BitVec 32 := Scalar.addi v77 c0_i32_44
  let c4_i32_45 : BitVec 32 := 4#32
  let c0_i32_46 : BitVec 32 := 0#32
  let v79 : BitVec 1 := Scalar.cmpi .eq c4_i32_45 c0_i32_46
  let c1_i32_47 : BitVec 32 := 1#32
  let v80 : BitVec 32 := Scalar.select v79 c1_i32_47 c4_i32_45
  let v81 : BitVec 32 := Scalar.remsi v78 v80
  let c0_i32_49 : BitVec 32 := 0#32
  let v83 : BitVec 1 := Scalar.cmpi .slt v81 c0_i32_49
  let c0_i32_50 : BitVec 32 := 0#32
  let v84 : BitVec 1 := Scalar.cmpi .slt v80 c0_i32_50
  let v85 : BitVec 1 := Scalar.xori v83 v84
  let c0_i32_48 : BitVec 32 := 0#32
  let v82 : BitVec 1 := Scalar.cmpi .ne v81 c0_i32_48
  let v86 : BitVec 1 := Scalar.andi v85 v82
  let v87 : BitVec 32 := Scalar.addi v81 v80
  let v88 : BitVec 32 := Scalar.select v86 v87 v81
  let v89 : BitVec 32 := Scalar.addi v76 v88
  let c1_i32_52 : BitVec 32 := 1#32
  let v90 : BitVec 32 := Scalar.muli v89 c1_i32_52
  let v91 : BitVec 32 := Scalar.addi c0_i32_53 v90
  v91.toNat
def k0_dev5 (d0 : Dev nD) : Nat :=
  let c0_i32_65 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v92 : BitVec 32 := Scalar.muli c4_i32_54 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_55 : BitVec 32 := 1#32
  let v93 : BitVec 32 := Scalar.addi v29 c1_i32_55
  let c1_i32_56 : BitVec 32 := 1#32
  let v94 : BitVec 32 := Scalar.addi v93 c1_i32_56
  let c4_i32_57 : BitVec 32 := 4#32
  let c0_i32_58 : BitVec 32 := 0#32
  let v95 : BitVec 1 := Scalar.cmpi .eq c4_i32_57 c0_i32_58
  let c1_i32_59 : BitVec 32 := 1#32
  let v96 : BitVec 32 := Scalar.select v95 c1_i32_59 c4_i32_57
  let v97 : BitVec 32 := Scalar.remsi v94 v96
  let c0_i32_61 : BitVec 32 := 0#32
  let v99 : BitVec 1 := Scalar.cmpi .slt v97 c0_i32_61
  let c0_i32_62 : BitVec 32 := 0#32
  let v100 : BitVec 1 := Scalar.cmpi .slt v96 c0_i32_62
  let v101 : BitVec 1 := Scalar.xori v99 v100
  let c0_i32_60 : BitVec 32 := 0#32
  let v98 : BitVec 1 := Scalar.cmpi .ne v97 c0_i32_60
  let v102 : BitVec 1 := Scalar.andi v101 v98
  let v103 : BitVec 32 := Scalar.addi v97 v96
  let v104 : BitVec 32 := Scalar.select v102 v103 v97
  let v105 : BitVec 32 := Scalar.addi v92 v104
  let c1_i32_64 : BitVec 32 := 1#32
  let v106 : BitVec 32 := Scalar.muli v105 c1_i32_64
  let v107 : BitVec 32 := Scalar.addi c0_i32_65 v106
  v107.toNat
def k0_dev6 (d0 : Dev nD) : Nat :=
  let c0_i32_77 : BitVec 32 := 0#32
  let c4_i32_66 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v108 : BitVec 32 := Scalar.muli c4_i32_66 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_67 : BitVec 32 := 1#32
  let v109 : BitVec 32 := Scalar.addi v29 c1_i32_67
  let c2_i32_68 : BitVec 32 := 2#32
  let v110 : BitVec 32 := Scalar.addi v109 c2_i32_68
  let c4_i32_69 : BitVec 32 := 4#32
  let c0_i32_70 : BitVec 32 := 0#32
  let v111 : BitVec 1 := Scalar.cmpi .eq c4_i32_69 c0_i32_70
  let c1_i32_71 : BitVec 32 := 1#32
  let v112 : BitVec 32 := Scalar.select v111 c1_i32_71 c4_i32_69
  let v113 : BitVec 32 := Scalar.remsi v110 v112
  let c0_i32_73 : BitVec 32 := 0#32
  let v115 : BitVec 1 := Scalar.cmpi .slt v113 c0_i32_73
  let c0_i32_74 : BitVec 32 := 0#32
  let v116 : BitVec 1 := Scalar.cmpi .slt v112 c0_i32_74
  let v117 : BitVec 1 := Scalar.xori v115 v116
  let c0_i32_72 : BitVec 32 := 0#32
  let v114 : BitVec 1 := Scalar.cmpi .ne v113 c0_i32_72
  let v118 : BitVec 1 := Scalar.andi v117 v114
  let v119 : BitVec 32 := Scalar.addi v113 v112
  let v120 : BitVec 32 := Scalar.select v118 v119 v113
  let v121 : BitVec 32 := Scalar.addi v108 v120
  let c1_i32_76 : BitVec 32 := 1#32
  let v122 : BitVec 32 := Scalar.muli v121 c1_i32_76
  let v123 : BitVec 32 := Scalar.addi c0_i32_77 v122
  v123.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v126 : Index := Scalar.indexCast v2
  let c0_80 : Index := 0#32
  let c0_81 : Index := 0#32
  ![v126.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let c0_i32_95 : BitVec 32 := 0#32
  ![v2.toNat, 0, 0]
def k0_dev7 (d0 : Dev nD) : Nat :=
  let c0_i32_93 : BitVec 32 := 0#32
  let c4_i32_89 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_82 : BitVec 32 := 1#32
  let v130 : BitVec 32 := Scalar.addi v19 c1_i32_82
  let c4_i32_83 : BitVec 32 := 4#32
  let c0_i32_84 : BitVec 32 := 0#32
  let v131 : BitVec 1 := Scalar.cmpi .eq c4_i32_83 c0_i32_84
  let c1_i32_85 : BitVec 32 := 1#32
  let v132 : BitVec 32 := Scalar.select v131 c1_i32_85 c4_i32_83
  let v133 : BitVec 32 := Scalar.remsi v130 v132
  let c0_i32_87 : BitVec 32 := 0#32
  let v135 : BitVec 1 := Scalar.cmpi .slt v133 c0_i32_87
  let c0_i32_88 : BitVec 32 := 0#32
  let v136 : BitVec 1 := Scalar.cmpi .slt v132 c0_i32_88
  let v137 : BitVec 1 := Scalar.xori v135 v136
  let c0_i32_86 : BitVec 32 := 0#32
  let v134 : BitVec 1 := Scalar.cmpi .ne v133 c0_i32_86
  let v138 : BitVec 1 := Scalar.andi v137 v134
  let v139 : BitVec 32 := Scalar.addi v133 v132
  let v140 : BitVec 32 := Scalar.select v138 v139 v133
  let v141 : BitVec 32 := Scalar.muli c4_i32_89 v140
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v142 : BitVec 32 := Scalar.addi v141 v29
  let c1_i32_92 : BitVec 32 := 1#32
  let v143 : BitVec 32 := Scalar.muli v142 c1_i32_92
  let v144 : BitVec 32 := Scalar.addi c0_i32_93 v143
  v144.toNat
def k0_dev8 (d0 : Dev nD) : Nat :=
  let c0_i32_109 : BitVec 32 := 0#32
  let c4_i32_105 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_98 : BitVec 32 := 2#32
  let v153 : BitVec 32 := Scalar.addi v19 c2_i32_98
  let c4_i32_99 : BitVec 32 := 4#32
  let c0_i32_100 : BitVec 32 := 0#32
  let v154 : BitVec 1 := Scalar.cmpi .eq c4_i32_99 c0_i32_100
  let c1_i32_101 : BitVec 32 := 1#32
  let v155 : BitVec 32 := Scalar.select v154 c1_i32_101 c4_i32_99
  let v156 : BitVec 32 := Scalar.remsi v153 v155
  let c0_i32_103 : BitVec 32 := 0#32
  let v158 : BitVec 1 := Scalar.cmpi .slt v156 c0_i32_103
  let c0_i32_104 : BitVec 32 := 0#32
  let v159 : BitVec 1 := Scalar.cmpi .slt v155 c0_i32_104
  let v160 : BitVec 1 := Scalar.xori v158 v159
  let c0_i32_102 : BitVec 32 := 0#32
  let v157 : BitVec 1 := Scalar.cmpi .ne v156 c0_i32_102
  let v161 : BitVec 1 := Scalar.andi v160 v157
  let v162 : BitVec 32 := Scalar.addi v156 v155
  let v163 : BitVec 32 := Scalar.select v161 v162 v156
  let v164 : BitVec 32 := Scalar.muli c4_i32_105 v163
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v165 : BitVec 32 := Scalar.addi v164 v29
  let c1_i32_108 : BitVec 32 := 1#32
  let v166 : BitVec 32 := Scalar.muli v165 c1_i32_108
  let v167 : BitVec 32 := Scalar.addi c0_i32_109 v166
  v167.toNat
def k0_dev9 (d0 : Dev nD) : Nat :=
  let c0_i32_125 : BitVec 32 := 0#32
  let c4_i32_121 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_114 : BitVec 32 := 3#32
  let v176 : BitVec 32 := Scalar.addi v19 c3_i32_114
  let c4_i32_115 : BitVec 32 := 4#32
  let c0_i32_116 : BitVec 32 := 0#32
  let v177 : BitVec 1 := Scalar.cmpi .eq c4_i32_115 c0_i32_116
  let c1_i32_117 : BitVec 32 := 1#32
  let v178 : BitVec 32 := Scalar.select v177 c1_i32_117 c4_i32_115
  let v179 : BitVec 32 := Scalar.remsi v176 v178
  let c0_i32_119 : BitVec 32 := 0#32
  let v181 : BitVec 1 := Scalar.cmpi .slt v179 c0_i32_119
  let c0_i32_120 : BitVec 32 := 0#32
  let v182 : BitVec 1 := Scalar.cmpi .slt v178 c0_i32_120
  let v183 : BitVec 1 := Scalar.xori v181 v182
  let c0_i32_118 : BitVec 32 := 0#32
  let v180 : BitVec 1 := Scalar.cmpi .ne v179 c0_i32_118
  let v184 : BitVec 1 := Scalar.andi v183 v180
  let v185 : BitVec 32 := Scalar.addi v179 v178
  let v186 : BitVec 32 := Scalar.select v184 v185 v179
  let v187 : BitVec 32 := Scalar.muli c4_i32_121 v186
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v188 : BitVec 32 := Scalar.addi v187 v29
  let c1_i32_124 : BitVec 32 := 1#32
  let v189 : BitVec 32 := Scalar.muli v188 c1_i32_124
  let v190 : BitVec 32 := Scalar.addi c0_i32_125 v189
  v190.toNat
def k0_dev10 (d0 : Dev nD) : Nat :=
  let c0_i32_144 : BitVec 32 := 0#32
  let c4_i32_130 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v199 : BitVec 32 := Scalar.muli c4_i32_130 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_131 : BitVec 32 := 1#32
  let v200 : BitVec 32 := Scalar.addi v29 c1_i32_131
  let c0_i32_132 : BitVec 32 := 0#32
  let v201 : BitVec 32 := Scalar.addi v200 c0_i32_132
  let c4_i32_133 : BitVec 32 := 4#32
  let c0_i32_134 : BitVec 32 := 0#32
  let v202 : BitVec 1 := Scalar.cmpi .eq c4_i32_133 c0_i32_134
  let c1_i32_135 : BitVec 32 := 1#32
  let v203 : BitVec 32 := Scalar.select v202 c1_i32_135 c4_i32_133
  let v204 : BitVec 32 := Scalar.remsi v201 v203
  let c0_i32_137 : BitVec 32 := 0#32
  let v206 : BitVec 1 := Scalar.cmpi .slt v204 c0_i32_137
  let c0_i32_138 : BitVec 32 := 0#32
  let v207 : BitVec 1 := Scalar.cmpi .slt v203 c0_i32_138
  let v208 : BitVec 1 := Scalar.xori v206 v207
  let c0_i32_136 : BitVec 32 := 0#32
  let v205 : BitVec 1 := Scalar.cmpi .ne v204 c0_i32_136
  let v209 : BitVec 1 := Scalar.andi v208 v205
  let v210 : BitVec 32 := Scalar.addi v204 v203
  let v211 : BitVec 32 := Scalar.select v209 v210 v204
  let v212 : BitVec 32 := Scalar.addi v199 v211
  let c1_i32_143 : BitVec 32 := 1#32
  let v213 : BitVec 32 := Scalar.muli v212 c1_i32_143
  let v214 : BitVec 32 := Scalar.addi c0_i32_144 v213
  v214.toNat
def k0_dev11 (d0 : Dev nD) : Nat :=
  let c0_i32_163 : BitVec 32 := 0#32
  let c4_i32_149 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v223 : BitVec 32 := Scalar.muli c4_i32_149 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_150 : BitVec 32 := 1#32
  let v224 : BitVec 32 := Scalar.addi v29 c1_i32_150
  let c1_i32_151 : BitVec 32 := 1#32
  let v225 : BitVec 32 := Scalar.addi v224 c1_i32_151
  let c4_i32_152 : BitVec 32 := 4#32
  let c0_i32_153 : BitVec 32 := 0#32
  let v226 : BitVec 1 := Scalar.cmpi .eq c4_i32_152 c0_i32_153
  let c1_i32_154 : BitVec 32 := 1#32
  let v227 : BitVec 32 := Scalar.select v226 c1_i32_154 c4_i32_152
  let v228 : BitVec 32 := Scalar.remsi v225 v227
  let c0_i32_156 : BitVec 32 := 0#32
  let v230 : BitVec 1 := Scalar.cmpi .slt v228 c0_i32_156
  let c0_i32_157 : BitVec 32 := 0#32
  let v231 : BitVec 1 := Scalar.cmpi .slt v227 c0_i32_157
  let v232 : BitVec 1 := Scalar.xori v230 v231
  let c0_i32_155 : BitVec 32 := 0#32
  let v229 : BitVec 1 := Scalar.cmpi .ne v228 c0_i32_155
  let v233 : BitVec 1 := Scalar.andi v232 v229
  let v234 : BitVec 32 := Scalar.addi v228 v227
  let v235 : BitVec 32 := Scalar.select v233 v234 v228
  let v236 : BitVec 32 := Scalar.addi v223 v235
  let c1_i32_162 : BitVec 32 := 1#32
  let v237 : BitVec 32 := Scalar.muli v236 c1_i32_162
  let v238 : BitVec 32 := Scalar.addi c0_i32_163 v237
  v238.toNat
def k0_dev12 (d0 : Dev nD) : Nat :=
  let c0_i32_182 : BitVec 32 := 0#32
  let c4_i32_168 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v247 : BitVec 32 := Scalar.muli c4_i32_168 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_169 : BitVec 32 := 1#32
  let v248 : BitVec 32 := Scalar.addi v29 c1_i32_169
  let c2_i32_170 : BitVec 32 := 2#32
  let v249 : BitVec 32 := Scalar.addi v248 c2_i32_170
  let c4_i32_171 : BitVec 32 := 4#32
  let c0_i32_172 : BitVec 32 := 0#32
  let v250 : BitVec 1 := Scalar.cmpi .eq c4_i32_171 c0_i32_172
  let c1_i32_173 : BitVec 32 := 1#32
  let v251 : BitVec 32 := Scalar.select v250 c1_i32_173 c4_i32_171
  let v252 : BitVec 32 := Scalar.remsi v249 v251
  let c0_i32_175 : BitVec 32 := 0#32
  let v254 : BitVec 1 := Scalar.cmpi .slt v252 c0_i32_175
  let c0_i32_176 : BitVec 32 := 0#32
  let v255 : BitVec 1 := Scalar.cmpi .slt v251 c0_i32_176
  let v256 : BitVec 1 := Scalar.xori v254 v255
  let c0_i32_174 : BitVec 32 := 0#32
  let v253 : BitVec 1 := Scalar.cmpi .ne v252 c0_i32_174
  let v257 : BitVec 1 := Scalar.andi v256 v253
  let v258 : BitVec 32 := Scalar.addi v252 v251
  let v259 : BitVec 32 := Scalar.select v257 v258 v252
  let v260 : BitVec 32 := Scalar.addi v247 v259
  let c1_i32_181 : BitVec 32 := 1#32
  let v261 : BitVec 32 := Scalar.muli v260 c1_i32_181
  let v262 : BitVec 32 := Scalar.addi c0_i32_182 v261
  v262.toNat
def k0_off3 (d0 : Dev nD) (c1_i32_236 : BitVec 32) : Fin 3 → Nat :=
  let c4_i32_243 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v408 : BitVec 32 := Scalar.addi v19 c1_i32_236
  let c4_i32_237 : BitVec 32 := 4#32
  let c0_i32_238 : BitVec 32 := 0#32
  let v409 : BitVec 1 := Scalar.cmpi .eq c4_i32_237 c0_i32_238
  let c1_i32_239 : BitVec 32 := 1#32
  let v410 : BitVec 32 := Scalar.select v409 c1_i32_239 c4_i32_237
  let v411 : BitVec 32 := Scalar.remsi v408 v410
  let c0_i32_241 : BitVec 32 := 0#32
  let v413 : BitVec 1 := Scalar.cmpi .slt v411 c0_i32_241
  let c0_i32_242 : BitVec 32 := 0#32
  let v414 : BitVec 1 := Scalar.cmpi .slt v410 c0_i32_242
  let v415 : BitVec 1 := Scalar.xori v413 v414
  let c0_i32_240 : BitVec 32 := 0#32
  let v412 : BitVec 1 := Scalar.cmpi .ne v411 c0_i32_240
  let v416 : BitVec 1 := Scalar.andi v415 v412
  let v417 : BitVec 32 := Scalar.addi v411 v410
  let v418 : BitVec 32 := Scalar.select v416 v417 v411
  let v419 : BitVec 32 := Scalar.muli c4_i32_243 v418
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v420 : BitVec 32 := Scalar.addi v419 v29
  let c0_i32_248 : BitVec 32 := 0#32
  let c0_i32_249 : BitVec 32 := 0#32
  ![v420.toNat, 0, 0]
def k0_dev13 (d0 : Dev nD) : Nat :=
  let c0_i32_266 : BitVec 32 := 0#32
  let c4_i32_252 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v429 : BitVec 32 := Scalar.muli c4_i32_252 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_253 : BitVec 32 := 1#32
  let v430 : BitVec 32 := Scalar.addi v29 c1_i32_253
  let c0_i32_254 : BitVec 32 := 0#32
  let v431 : BitVec 32 := Scalar.addi v430 c0_i32_254
  let c4_i32_255 : BitVec 32 := 4#32
  let c0_i32_256 : BitVec 32 := 0#32
  let v432 : BitVec 1 := Scalar.cmpi .eq c4_i32_255 c0_i32_256
  let c1_i32_257 : BitVec 32 := 1#32
  let v433 : BitVec 32 := Scalar.select v432 c1_i32_257 c4_i32_255
  let v434 : BitVec 32 := Scalar.remsi v431 v433
  let c0_i32_259 : BitVec 32 := 0#32
  let v436 : BitVec 1 := Scalar.cmpi .slt v434 c0_i32_259
  let c0_i32_260 : BitVec 32 := 0#32
  let v437 : BitVec 1 := Scalar.cmpi .slt v433 c0_i32_260
  let v438 : BitVec 1 := Scalar.xori v436 v437
  let c0_i32_258 : BitVec 32 := 0#32
  let v435 : BitVec 1 := Scalar.cmpi .ne v434 c0_i32_258
  let v439 : BitVec 1 := Scalar.andi v438 v435
  let v440 : BitVec 32 := Scalar.addi v434 v433
  let v441 : BitVec 32 := Scalar.select v439 v440 v434
  let v442 : BitVec 32 := Scalar.addi v429 v441
  let c1_i32_265 : BitVec 32 := 1#32
  let v443 : BitVec 32 := Scalar.muli v442 c1_i32_265
  let v444 : BitVec 32 := Scalar.addi c0_i32_266 v443
  v444.toNat
def k0_dev14 (d0 : Dev nD) : Nat :=
  let c0_i32_285 : BitVec 32 := 0#32
  let c4_i32_271 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v453 : BitVec 32 := Scalar.muli c4_i32_271 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_272 : BitVec 32 := 1#32
  let v454 : BitVec 32 := Scalar.addi v29 c1_i32_272
  let c1_i32_273 : BitVec 32 := 1#32
  let v455 : BitVec 32 := Scalar.addi v454 c1_i32_273
  let c4_i32_274 : BitVec 32 := 4#32
  let c0_i32_275 : BitVec 32 := 0#32
  let v456 : BitVec 1 := Scalar.cmpi .eq c4_i32_274 c0_i32_275
  let c1_i32_276 : BitVec 32 := 1#32
  let v457 : BitVec 32 := Scalar.select v456 c1_i32_276 c4_i32_274
  let v458 : BitVec 32 := Scalar.remsi v455 v457
  let c0_i32_278 : BitVec 32 := 0#32
  let v460 : BitVec 1 := Scalar.cmpi .slt v458 c0_i32_278
  let c0_i32_279 : BitVec 32 := 0#32
  let v461 : BitVec 1 := Scalar.cmpi .slt v457 c0_i32_279
  let v462 : BitVec 1 := Scalar.xori v460 v461
  let c0_i32_277 : BitVec 32 := 0#32
  let v459 : BitVec 1 := Scalar.cmpi .ne v458 c0_i32_277
  let v463 : BitVec 1 := Scalar.andi v462 v459
  let v464 : BitVec 32 := Scalar.addi v458 v457
  let v465 : BitVec 32 := Scalar.select v463 v464 v458
  let v466 : BitVec 32 := Scalar.addi v453 v465
  let c1_i32_284 : BitVec 32 := 1#32
  let v467 : BitVec 32 := Scalar.muli v466 c1_i32_284
  let v468 : BitVec 32 := Scalar.addi c0_i32_285 v467
  v468.toNat
def k0_dev15 (d0 : Dev nD) : Nat :=
  let c0_i32_304 : BitVec 32 := 0#32
  let c4_i32_290 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v477 : BitVec 32 := Scalar.muli c4_i32_290 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_291 : BitVec 32 := 1#32
  let v478 : BitVec 32 := Scalar.addi v29 c1_i32_291
  let c2_i32_292 : BitVec 32 := 2#32
  let v479 : BitVec 32 := Scalar.addi v478 c2_i32_292
  let c4_i32_293 : BitVec 32 := 4#32
  let c0_i32_294 : BitVec 32 := 0#32
  let v480 : BitVec 1 := Scalar.cmpi .eq c4_i32_293 c0_i32_294
  let c1_i32_295 : BitVec 32 := 1#32
  let v481 : BitVec 32 := Scalar.select v480 c1_i32_295 c4_i32_293
  let v482 : BitVec 32 := Scalar.remsi v479 v481
  let c0_i32_297 : BitVec 32 := 0#32
  let v484 : BitVec 1 := Scalar.cmpi .slt v482 c0_i32_297
  let c0_i32_298 : BitVec 32 := 0#32
  let v485 : BitVec 1 := Scalar.cmpi .slt v481 c0_i32_298
  let v486 : BitVec 1 := Scalar.xori v484 v485
  let c0_i32_296 : BitVec 32 := 0#32
  let v483 : BitVec 1 := Scalar.cmpi .ne v482 c0_i32_296
  let v487 : BitVec 1 := Scalar.andi v486 v483
  let v488 : BitVec 32 := Scalar.addi v482 v481
  let v489 : BitVec 32 := Scalar.select v487 v488 v482
  let v490 : BitVec 32 := Scalar.addi v477 v489
  let c1_i32_303 : BitVec 32 := 1#32
  let v491 : BitVec 32 := Scalar.muli v490 c1_i32_303
  let v492 : BitVec 32 := Scalar.addi c0_i32_304 v491
  v492.toNat
def k0_off4 (d0 : Dev nD) (c1_i32_236 : BitVec 32) : Fin 3 → Nat :=
  let c4_i32_243 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v408 : BitVec 32 := Scalar.addi v19 c1_i32_236
  let c4_i32_237 : BitVec 32 := 4#32
  let c0_i32_238 : BitVec 32 := 0#32
  let v409 : BitVec 1 := Scalar.cmpi .eq c4_i32_237 c0_i32_238
  let c1_i32_239 : BitVec 32 := 1#32
  let v410 : BitVec 32 := Scalar.select v409 c1_i32_239 c4_i32_237
  let v411 : BitVec 32 := Scalar.remsi v408 v410
  let c0_i32_241 : BitVec 32 := 0#32
  let v413 : BitVec 1 := Scalar.cmpi .slt v411 c0_i32_241
  let c0_i32_242 : BitVec 32 := 0#32
  let v414 : BitVec 1 := Scalar.cmpi .slt v410 c0_i32_242
  let v415 : BitVec 1 := Scalar.xori v413 v414
  let c0_i32_240 : BitVec 32 := 0#32
  let v412 : BitVec 1 := Scalar.cmpi .ne v411 c0_i32_240
  let v416 : BitVec 1 := Scalar.andi v415 v412
  let v417 : BitVec 32 := Scalar.addi v411 v410
  let v418 : BitVec 32 := Scalar.select v416 v417 v411
  let v419 : BitVec 32 := Scalar.muli c4_i32_243 v418
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v420 : BitVec 32 := Scalar.addi v419 v29
  let v501 : Index := Scalar.indexCast v420
  let c0_309 : Index := 0#32
  let c0_310 : Index := 0#32
  ![v501.toNat, 0, 0]
def k0_dev16 (d0 : Dev nD) : Nat :=
  let c0_i32_388 : BitVec 32 := 0#32
  let c4_i32_374 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v659 : BitVec 32 := Scalar.muli c4_i32_374 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_375 : BitVec 32 := 1#32
  let v660 : BitVec 32 := Scalar.addi v29 c1_i32_375
  let c0_i32_376 : BitVec 32 := 0#32
  let v661 : BitVec 32 := Scalar.addi v660 c0_i32_376
  let c4_i32_377 : BitVec 32 := 4#32
  let c0_i32_378 : BitVec 32 := 0#32
  let v662 : BitVec 1 := Scalar.cmpi .eq c4_i32_377 c0_i32_378
  let c1_i32_379 : BitVec 32 := 1#32
  let v663 : BitVec 32 := Scalar.select v662 c1_i32_379 c4_i32_377
  let v664 : BitVec 32 := Scalar.remsi v661 v663
  let c0_i32_381 : BitVec 32 := 0#32
  let v666 : BitVec 1 := Scalar.cmpi .slt v664 c0_i32_381
  let c0_i32_382 : BitVec 32 := 0#32
  let v667 : BitVec 1 := Scalar.cmpi .slt v663 c0_i32_382
  let v668 : BitVec 1 := Scalar.xori v666 v667
  let c0_i32_380 : BitVec 32 := 0#32
  let v665 : BitVec 1 := Scalar.cmpi .ne v664 c0_i32_380
  let v669 : BitVec 1 := Scalar.andi v668 v665
  let v670 : BitVec 32 := Scalar.addi v664 v663
  let v671 : BitVec 32 := Scalar.select v669 v670 v664
  let v672 : BitVec 32 := Scalar.addi v659 v671
  let c1_i32_387 : BitVec 32 := 1#32
  let v673 : BitVec 32 := Scalar.muli v672 c1_i32_387
  let v674 : BitVec 32 := Scalar.addi c0_i32_388 v673
  v674.toNat
def k0_dev17 (d0 : Dev nD) : Nat :=
  let c0_i32_407 : BitVec 32 := 0#32
  let c4_i32_393 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v683 : BitVec 32 := Scalar.muli c4_i32_393 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_394 : BitVec 32 := 1#32
  let v684 : BitVec 32 := Scalar.addi v29 c1_i32_394
  let c1_i32_395 : BitVec 32 := 1#32
  let v685 : BitVec 32 := Scalar.addi v684 c1_i32_395
  let c4_i32_396 : BitVec 32 := 4#32
  let c0_i32_397 : BitVec 32 := 0#32
  let v686 : BitVec 1 := Scalar.cmpi .eq c4_i32_396 c0_i32_397
  let c1_i32_398 : BitVec 32 := 1#32
  let v687 : BitVec 32 := Scalar.select v686 c1_i32_398 c4_i32_396
  let v688 : BitVec 32 := Scalar.remsi v685 v687
  let c0_i32_400 : BitVec 32 := 0#32
  let v690 : BitVec 1 := Scalar.cmpi .slt v688 c0_i32_400
  let c0_i32_401 : BitVec 32 := 0#32
  let v691 : BitVec 1 := Scalar.cmpi .slt v687 c0_i32_401
  let v692 : BitVec 1 := Scalar.xori v690 v691
  let c0_i32_399 : BitVec 32 := 0#32
  let v689 : BitVec 1 := Scalar.cmpi .ne v688 c0_i32_399
  let v693 : BitVec 1 := Scalar.andi v692 v689
  let v694 : BitVec 32 := Scalar.addi v688 v687
  let v695 : BitVec 32 := Scalar.select v693 v694 v688
  let v696 : BitVec 32 := Scalar.addi v683 v695
  let c1_i32_406 : BitVec 32 := 1#32
  let v697 : BitVec 32 := Scalar.muli v696 c1_i32_406
  let v698 : BitVec 32 := Scalar.addi c0_i32_407 v697
  v698.toNat
def k0_dev18 (d0 : Dev nD) : Nat :=
  let c0_i32_426 : BitVec 32 := 0#32
  let c4_i32_412 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v707 : BitVec 32 := Scalar.muli c4_i32_412 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_413 : BitVec 32 := 1#32
  let v708 : BitVec 32 := Scalar.addi v29 c1_i32_413
  let c2_i32_414 : BitVec 32 := 2#32
  let v709 : BitVec 32 := Scalar.addi v708 c2_i32_414
  let c4_i32_415 : BitVec 32 := 4#32
  let c0_i32_416 : BitVec 32 := 0#32
  let v710 : BitVec 1 := Scalar.cmpi .eq c4_i32_415 c0_i32_416
  let c1_i32_417 : BitVec 32 := 1#32
  let v711 : BitVec 32 := Scalar.select v710 c1_i32_417 c4_i32_415
  let v712 : BitVec 32 := Scalar.remsi v709 v711
  let c0_i32_419 : BitVec 32 := 0#32
  let v714 : BitVec 1 := Scalar.cmpi .slt v712 c0_i32_419
  let c0_i32_420 : BitVec 32 := 0#32
  let v715 : BitVec 1 := Scalar.cmpi .slt v711 c0_i32_420
  let v716 : BitVec 1 := Scalar.xori v714 v715
  let c0_i32_418 : BitVec 32 := 0#32
  let v713 : BitVec 1 := Scalar.cmpi .ne v712 c0_i32_418
  let v717 : BitVec 1 := Scalar.andi v716 v713
  let v718 : BitVec 32 := Scalar.addi v712 v711
  let v719 : BitVec 32 := Scalar.select v717 v718 v712
  let v720 : BitVec 32 := Scalar.addi v707 v719
  let c1_i32_425 : BitVec 32 := 1#32
  let v721 : BitVec 32 := Scalar.muli v720 c1_i32_425
  let v722 : BitVec 32 := Scalar.addi c0_i32_426 v721
  v722.toNat
def k0_dev19 (d0 : Dev nD) : Nat :=
  let c0_i32_510 : BitVec 32 := 0#32
  let c4_i32_496 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v889 : BitVec 32 := Scalar.muli c4_i32_496 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_497 : BitVec 32 := 1#32
  let v890 : BitVec 32 := Scalar.addi v29 c1_i32_497
  let c0_i32_498 : BitVec 32 := 0#32
  let v891 : BitVec 32 := Scalar.addi v890 c0_i32_498
  let c4_i32_499 : BitVec 32 := 4#32
  let c0_i32_500 : BitVec 32 := 0#32
  let v892 : BitVec 1 := Scalar.cmpi .eq c4_i32_499 c0_i32_500
  let c1_i32_501 : BitVec 32 := 1#32
  let v893 : BitVec 32 := Scalar.select v892 c1_i32_501 c4_i32_499
  let v894 : BitVec 32 := Scalar.remsi v891 v893
  let c0_i32_503 : BitVec 32 := 0#32
  let v896 : BitVec 1 := Scalar.cmpi .slt v894 c0_i32_503
  let c0_i32_504 : BitVec 32 := 0#32
  let v897 : BitVec 1 := Scalar.cmpi .slt v893 c0_i32_504
  let v898 : BitVec 1 := Scalar.xori v896 v897
  let c0_i32_502 : BitVec 32 := 0#32
  let v895 : BitVec 1 := Scalar.cmpi .ne v894 c0_i32_502
  let v899 : BitVec 1 := Scalar.andi v898 v895
  let v900 : BitVec 32 := Scalar.addi v894 v893
  let v901 : BitVec 32 := Scalar.select v899 v900 v894
  let v902 : BitVec 32 := Scalar.addi v889 v901
  let c1_i32_509 : BitVec 32 := 1#32
  let v903 : BitVec 32 := Scalar.muli v902 c1_i32_509
  let v904 : BitVec 32 := Scalar.addi c0_i32_510 v903
  v904.toNat
def k0_dev20 (d0 : Dev nD) : Nat :=
  let c0_i32_529 : BitVec 32 := 0#32
  let c4_i32_515 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v913 : BitVec 32 := Scalar.muli c4_i32_515 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_516 : BitVec 32 := 1#32
  let v914 : BitVec 32 := Scalar.addi v29 c1_i32_516
  let c1_i32_517 : BitVec 32 := 1#32
  let v915 : BitVec 32 := Scalar.addi v914 c1_i32_517
  let c4_i32_518 : BitVec 32 := 4#32
  let c0_i32_519 : BitVec 32 := 0#32
  let v916 : BitVec 1 := Scalar.cmpi .eq c4_i32_518 c0_i32_519
  let c1_i32_520 : BitVec 32 := 1#32
  let v917 : BitVec 32 := Scalar.select v916 c1_i32_520 c4_i32_518
  let v918 : BitVec 32 := Scalar.remsi v915 v917
  let c0_i32_522 : BitVec 32 := 0#32
  let v920 : BitVec 1 := Scalar.cmpi .slt v918 c0_i32_522
  let c0_i32_523 : BitVec 32 := 0#32
  let v921 : BitVec 1 := Scalar.cmpi .slt v917 c0_i32_523
  let v922 : BitVec 1 := Scalar.xori v920 v921
  let c0_i32_521 : BitVec 32 := 0#32
  let v919 : BitVec 1 := Scalar.cmpi .ne v918 c0_i32_521
  let v923 : BitVec 1 := Scalar.andi v922 v919
  let v924 : BitVec 32 := Scalar.addi v918 v917
  let v925 : BitVec 32 := Scalar.select v923 v924 v918
  let v926 : BitVec 32 := Scalar.addi v913 v925
  let c1_i32_528 : BitVec 32 := 1#32
  let v927 : BitVec 32 := Scalar.muli v926 c1_i32_528
  let v928 : BitVec 32 := Scalar.addi c0_i32_529 v927
  v928.toNat
def k0_dev21 (d0 : Dev nD) : Nat :=
  let c0_i32_548 : BitVec 32 := 0#32
  let c4_i32_534 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v937 : BitVec 32 := Scalar.muli c4_i32_534 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_535 : BitVec 32 := 1#32
  let v938 : BitVec 32 := Scalar.addi v29 c1_i32_535
  let c2_i32_536 : BitVec 32 := 2#32
  let v939 : BitVec 32 := Scalar.addi v938 c2_i32_536
  let c4_i32_537 : BitVec 32 := 4#32
  let c0_i32_538 : BitVec 32 := 0#32
  let v940 : BitVec 1 := Scalar.cmpi .eq c4_i32_537 c0_i32_538
  let c1_i32_539 : BitVec 32 := 1#32
  let v941 : BitVec 32 := Scalar.select v940 c1_i32_539 c4_i32_537
  let v942 : BitVec 32 := Scalar.remsi v939 v941
  let c0_i32_541 : BitVec 32 := 0#32
  let v944 : BitVec 1 := Scalar.cmpi .slt v942 c0_i32_541
  let c0_i32_542 : BitVec 32 := 0#32
  let v945 : BitVec 1 := Scalar.cmpi .slt v941 c0_i32_542
  let v946 : BitVec 1 := Scalar.xori v944 v945
  let c0_i32_540 : BitVec 32 := 0#32
  let v943 : BitVec 1 := Scalar.cmpi .ne v942 c0_i32_540
  let v947 : BitVec 1 := Scalar.andi v946 v943
  let v948 : BitVec 32 := Scalar.addi v942 v941
  let v949 : BitVec 32 := Scalar.select v947 v948 v942
  let v950 : BitVec 32 := Scalar.addi v937 v949
  let c1_i32_547 : BitVec 32 := 1#32
  let v951 : BitVec 32 := Scalar.muli v950 c1_i32_547
  let v952 : BitVec 32 := Scalar.addi c0_i32_548 v951
  v952.toNat
def k0_off5 (d0 : Dev nD) (c0_i32_611 : BitVec 32) (c0_i32_620 : BitVec 32) : Fin 3 → Nat :=
  let c4_i32_618 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1112 : BitVec 32 := Scalar.addi v19 c0_i32_611
  let c4_i32_612 : BitVec 32 := 4#32
  let c0_i32_613 : BitVec 32 := 0#32
  let v1113 : BitVec 1 := Scalar.cmpi .eq c4_i32_612 c0_i32_613
  let c1_i32_614 : BitVec 32 := 1#32
  let v1114 : BitVec 32 := Scalar.select v1113 c1_i32_614 c4_i32_612
  let v1115 : BitVec 32 := Scalar.remsi v1112 v1114
  let c0_i32_616 : BitVec 32 := 0#32
  let v1117 : BitVec 1 := Scalar.cmpi .slt v1115 c0_i32_616
  let c0_i32_617 : BitVec 32 := 0#32
  let v1118 : BitVec 1 := Scalar.cmpi .slt v1114 c0_i32_617
  let v1119 : BitVec 1 := Scalar.xori v1117 v1118
  let c0_i32_615 : BitVec 32 := 0#32
  let v1116 : BitVec 1 := Scalar.cmpi .ne v1115 c0_i32_615
  let v1120 : BitVec 1 := Scalar.andi v1119 v1116
  let v1121 : BitVec 32 := Scalar.addi v1115 v1114
  let v1122 : BitVec 32 := Scalar.select v1120 v1121 v1115
  let v1123 : BitVec 32 := Scalar.muli c4_i32_618 v1122
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_619 : BitVec 32 := 1#32
  let v1124 : BitVec 32 := Scalar.addi v29 c1_i32_619
  let v1125 : BitVec 32 := Scalar.addi v1124 c0_i32_620
  let c4_i32_621 : BitVec 32 := 4#32
  let c0_i32_622 : BitVec 32 := 0#32
  let v1126 : BitVec 1 := Scalar.cmpi .eq c4_i32_621 c0_i32_622
  let c1_i32_623 : BitVec 32 := 1#32
  let v1127 : BitVec 32 := Scalar.select v1126 c1_i32_623 c4_i32_621
  let v1128 : BitVec 32 := Scalar.remsi v1125 v1127
  let c0_i32_625 : BitVec 32 := 0#32
  let v1130 : BitVec 1 := Scalar.cmpi .slt v1128 c0_i32_625
  let c0_i32_626 : BitVec 32 := 0#32
  let v1131 : BitVec 1 := Scalar.cmpi .slt v1127 c0_i32_626
  let v1132 : BitVec 1 := Scalar.xori v1130 v1131
  let c0_i32_624 : BitVec 32 := 0#32
  let v1129 : BitVec 1 := Scalar.cmpi .ne v1128 c0_i32_624
  let v1133 : BitVec 1 := Scalar.andi v1132 v1129
  let v1134 : BitVec 32 := Scalar.addi v1128 v1127
  let v1135 : BitVec 32 := Scalar.select v1133 v1134 v1128
  let v1136 : BitVec 32 := Scalar.addi v1123 v1135
  let c0_i32_632 : BitVec 32 := 0#32
  let c0_i32_633 : BitVec 32 := 0#32
  ![v1136.toNat, 0, 0]
def k0_off6 (d0 : Dev nD) (c0_i32_611 : BitVec 32) (c0_i32_620 : BitVec 32) : Fin 3 → Nat :=
  let c4_i32_618 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1112 : BitVec 32 := Scalar.addi v19 c0_i32_611
  let c4_i32_612 : BitVec 32 := 4#32
  let c0_i32_613 : BitVec 32 := 0#32
  let v1113 : BitVec 1 := Scalar.cmpi .eq c4_i32_612 c0_i32_613
  let c1_i32_614 : BitVec 32 := 1#32
  let v1114 : BitVec 32 := Scalar.select v1113 c1_i32_614 c4_i32_612
  let v1115 : BitVec 32 := Scalar.remsi v1112 v1114
  let c0_i32_616 : BitVec 32 := 0#32
  let v1117 : BitVec 1 := Scalar.cmpi .slt v1115 c0_i32_616
  let c0_i32_617 : BitVec 32 := 0#32
  let v1118 : BitVec 1 := Scalar.cmpi .slt v1114 c0_i32_617
  let v1119 : BitVec 1 := Scalar.xori v1117 v1118
  let c0_i32_615 : BitVec 32 := 0#32
  let v1116 : BitVec 1 := Scalar.cmpi .ne v1115 c0_i32_615
  let v1120 : BitVec 1 := Scalar.andi v1119 v1116
  let v1121 : BitVec 32 := Scalar.addi v1115 v1114
  let v1122 : BitVec 32 := Scalar.select v1120 v1121 v1115
  let v1123 : BitVec 32 := Scalar.muli c4_i32_618 v1122
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_619 : BitVec 32 := 1#32
  let v1124 : BitVec 32 := Scalar.addi v29 c1_i32_619
  let v1125 : BitVec 32 := Scalar.addi v1124 c0_i32_620
  let c4_i32_621 : BitVec 32 := 4#32
  let c0_i32_622 : BitVec 32 := 0#32
  let v1126 : BitVec 1 := Scalar.cmpi .eq c4_i32_621 c0_i32_622
  let c1_i32_623 : BitVec 32 := 1#32
  let v1127 : BitVec 32 := Scalar.select v1126 c1_i32_623 c4_i32_621
  let v1128 : BitVec 32 := Scalar.remsi v1125 v1127
  let c0_i32_625 : BitVec 32 := 0#32
  let v1130 : BitVec 1 := Scalar.cmpi .slt v1128 c0_i32_625
  let c0_i32_626 : BitVec 32 := 0#32
  let v1131 : BitVec 1 := Scalar.cmpi .slt v1127 c0_i32_626
  let v1132 : BitVec 1 := Scalar.xori v1130 v1131
  let c0_i32_624 : BitVec 32 := 0#32
  let v1129 : BitVec 1 := Scalar.cmpi .ne v1128 c0_i32_624
  let v1133 : BitVec 1 := Scalar.andi v1132 v1129
  let v1134 : BitVec 32 := Scalar.addi v1128 v1127
  let v1135 : BitVec 32 := Scalar.select v1133 v1134 v1128
  let v1136 : BitVec 32 := Scalar.addi v1123 v1135
  let v1145 : Index := Scalar.indexCast v1136
  let c0_636 : Index := 0#32
  let c0_637 : Index := 0#32
  ![v1145.toNat, 0, 0]
def k0_dev22 (d0 : Dev nD) : Nat :=
  let c0_i32_696 : BitVec 32 := 0#32
  let c4_i32_602 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1098 : BitVec 32 := Scalar.muli c4_i32_602 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_603 : BitVec 32 := 1#32
  let v1099 : BitVec 32 := Scalar.addi v29 c1_i32_603
  let c0_i32_604 : BitVec 32 := 0#32
  let v1100 : BitVec 32 := Scalar.addi v1099 c0_i32_604
  let c4_i32_605 : BitVec 32 := 4#32
  let c0_i32_606 : BitVec 32 := 0#32
  let v1101 : BitVec 1 := Scalar.cmpi .eq c4_i32_605 c0_i32_606
  let c1_i32_607 : BitVec 32 := 1#32
  let v1102 : BitVec 32 := Scalar.select v1101 c1_i32_607 c4_i32_605
  let v1103 : BitVec 32 := Scalar.remsi v1100 v1102
  let c0_i32_609 : BitVec 32 := 0#32
  let v1105 : BitVec 1 := Scalar.cmpi .slt v1103 c0_i32_609
  let c0_i32_610 : BitVec 32 := 0#32
  let v1106 : BitVec 1 := Scalar.cmpi .slt v1102 c0_i32_610
  let v1107 : BitVec 1 := Scalar.xori v1105 v1106
  let c0_i32_608 : BitVec 32 := 0#32
  let v1104 : BitVec 1 := Scalar.cmpi .ne v1103 c0_i32_608
  let v1108 : BitVec 1 := Scalar.andi v1107 v1104
  let v1109 : BitVec 32 := Scalar.addi v1103 v1102
  let v1110 : BitVec 32 := Scalar.select v1108 v1109 v1103
  let v1111 : BitVec 32 := Scalar.addi v1098 v1110
  let c1_i32_695 : BitVec 32 := 1#32
  let v1283 : BitVec 32 := Scalar.muli v1111 c1_i32_695
  let v1284 : BitVec 32 := Scalar.addi c0_i32_696 v1283
  v1284.toNat
def k0_dev23 (d0 : Dev nD) : Nat :=
  let c0_i32_786 : BitVec 32 := 0#32
  let c4_i32_602 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1098 : BitVec 32 := Scalar.muli c4_i32_602 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_603 : BitVec 32 := 1#32
  let v1099 : BitVec 32 := Scalar.addi v29 c1_i32_603
  let c0_i32_604 : BitVec 32 := 0#32
  let v1100 : BitVec 32 := Scalar.addi v1099 c0_i32_604
  let c4_i32_605 : BitVec 32 := 4#32
  let c0_i32_606 : BitVec 32 := 0#32
  let v1101 : BitVec 1 := Scalar.cmpi .eq c4_i32_605 c0_i32_606
  let c1_i32_607 : BitVec 32 := 1#32
  let v1102 : BitVec 32 := Scalar.select v1101 c1_i32_607 c4_i32_605
  let v1103 : BitVec 32 := Scalar.remsi v1100 v1102
  let c0_i32_609 : BitVec 32 := 0#32
  let v1105 : BitVec 1 := Scalar.cmpi .slt v1103 c0_i32_609
  let c0_i32_610 : BitVec 32 := 0#32
  let v1106 : BitVec 1 := Scalar.cmpi .slt v1102 c0_i32_610
  let v1107 : BitVec 1 := Scalar.xori v1105 v1106
  let c0_i32_608 : BitVec 32 := 0#32
  let v1104 : BitVec 1 := Scalar.cmpi .ne v1103 c0_i32_608
  let v1108 : BitVec 1 := Scalar.andi v1107 v1104
  let v1109 : BitVec 32 := Scalar.addi v1103 v1102
  let v1110 : BitVec 32 := Scalar.select v1108 v1109 v1103
  let v1111 : BitVec 32 := Scalar.addi v1098 v1110
  let c1_i32_785 : BitVec 32 := 1#32
  let v1464 : BitVec 32 := Scalar.muli v1111 c1_i32_785
  let v1465 : BitVec 32 := Scalar.addi c0_i32_786 v1464
  v1465.toNat
def k0_dev24 (d0 : Dev nD) : Nat :=
  let c0_i32_876 : BitVec 32 := 0#32
  let c4_i32_602 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1098 : BitVec 32 := Scalar.muli c4_i32_602 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_603 : BitVec 32 := 1#32
  let v1099 : BitVec 32 := Scalar.addi v29 c1_i32_603
  let c0_i32_604 : BitVec 32 := 0#32
  let v1100 : BitVec 32 := Scalar.addi v1099 c0_i32_604
  let c4_i32_605 : BitVec 32 := 4#32
  let c0_i32_606 : BitVec 32 := 0#32
  let v1101 : BitVec 1 := Scalar.cmpi .eq c4_i32_605 c0_i32_606
  let c1_i32_607 : BitVec 32 := 1#32
  let v1102 : BitVec 32 := Scalar.select v1101 c1_i32_607 c4_i32_605
  let v1103 : BitVec 32 := Scalar.remsi v1100 v1102
  let c0_i32_609 : BitVec 32 := 0#32
  let v1105 : BitVec 1 := Scalar.cmpi .slt v1103 c0_i32_609
  let c0_i32_610 : BitVec 32 := 0#32
  let v1106 : BitVec 1 := Scalar.cmpi .slt v1102 c0_i32_610
  let v1107 : BitVec 1 := Scalar.xori v1105 v1106
  let c0_i32_608 : BitVec 32 := 0#32
  let v1104 : BitVec 1 := Scalar.cmpi .ne v1103 c0_i32_608
  let v1108 : BitVec 1 := Scalar.andi v1107 v1104
  let v1109 : BitVec 32 := Scalar.addi v1103 v1102
  let v1110 : BitVec 32 := Scalar.select v1108 v1109 v1103
  let v1111 : BitVec 32 := Scalar.addi v1098 v1110
  let c1_i32_875 : BitVec 32 := 1#32
  let v1645 : BitVec 32 := Scalar.muli v1111 c1_i32_875
  let v1646 : BitVec 32 := Scalar.addi c0_i32_876 v1645
  v1646.toNat
def k0_dev25 (d0 : Dev nD) : Nat :=
  let c0_i32_966 : BitVec 32 := 0#32
  let c4_i32_602 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1098 : BitVec 32 := Scalar.muli c4_i32_602 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_603 : BitVec 32 := 1#32
  let v1099 : BitVec 32 := Scalar.addi v29 c1_i32_603
  let c0_i32_604 : BitVec 32 := 0#32
  let v1100 : BitVec 32 := Scalar.addi v1099 c0_i32_604
  let c4_i32_605 : BitVec 32 := 4#32
  let c0_i32_606 : BitVec 32 := 0#32
  let v1101 : BitVec 1 := Scalar.cmpi .eq c4_i32_605 c0_i32_606
  let c1_i32_607 : BitVec 32 := 1#32
  let v1102 : BitVec 32 := Scalar.select v1101 c1_i32_607 c4_i32_605
  let v1103 : BitVec 32 := Scalar.remsi v1100 v1102
  let c0_i32_609 : BitVec 32 := 0#32
  let v1105 : BitVec 1 := Scalar.cmpi .slt v1103 c0_i32_609
  let c0_i32_610 : BitVec 32 := 0#32
  let v1106 : BitVec 1 := Scalar.cmpi .slt v1102 c0_i32_610
  let v1107 : BitVec 1 := Scalar.xori v1105 v1106
  let c0_i32_608 : BitVec 32 := 0#32
  let v1104 : BitVec 1 := Scalar.cmpi .ne v1103 c0_i32_608
  let v1108 : BitVec 1 := Scalar.andi v1107 v1104
  let v1109 : BitVec 32 := Scalar.addi v1103 v1102
  let v1110 : BitVec 32 := Scalar.select v1108 v1109 v1103
  let v1111 : BitVec 32 := Scalar.addi v1098 v1110
  let c1_i32_965 : BitVec 32 := 1#32
  let v1826 : BitVec 32 := Scalar.muli v1111 c1_i32_965
  let v1827 : BitVec 32 := Scalar.addi c0_i32_966 v1826
  v1827.toNat
def k0_dev26 (d0 : Dev nD) : Nat :=
  let c0_i32_1065 : BitVec 32 := 0#32
  let c4_i32_971 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1836 : BitVec 32 := Scalar.muli c4_i32_971 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_972 : BitVec 32 := 1#32
  let v1837 : BitVec 32 := Scalar.addi v29 c1_i32_972
  let c1_i32_973 : BitVec 32 := 1#32
  let v1838 : BitVec 32 := Scalar.addi v1837 c1_i32_973
  let c4_i32_974 : BitVec 32 := 4#32
  let c0_i32_975 : BitVec 32 := 0#32
  let v1839 : BitVec 1 := Scalar.cmpi .eq c4_i32_974 c0_i32_975
  let c1_i32_976 : BitVec 32 := 1#32
  let v1840 : BitVec 32 := Scalar.select v1839 c1_i32_976 c4_i32_974
  let v1841 : BitVec 32 := Scalar.remsi v1838 v1840
  let c0_i32_978 : BitVec 32 := 0#32
  let v1843 : BitVec 1 := Scalar.cmpi .slt v1841 c0_i32_978
  let c0_i32_979 : BitVec 32 := 0#32
  let v1844 : BitVec 1 := Scalar.cmpi .slt v1840 c0_i32_979
  let v1845 : BitVec 1 := Scalar.xori v1843 v1844
  let c0_i32_977 : BitVec 32 := 0#32
  let v1842 : BitVec 1 := Scalar.cmpi .ne v1841 c0_i32_977
  let v1846 : BitVec 1 := Scalar.andi v1845 v1842
  let v1847 : BitVec 32 := Scalar.addi v1841 v1840
  let v1848 : BitVec 32 := Scalar.select v1846 v1847 v1841
  let v1849 : BitVec 32 := Scalar.addi v1836 v1848
  let c1_i32_1064 : BitVec 32 := 1#32
  let v2021 : BitVec 32 := Scalar.muli v1849 c1_i32_1064
  let v2022 : BitVec 32 := Scalar.addi c0_i32_1065 v2021
  v2022.toNat
def k0_dev27 (d0 : Dev nD) : Nat :=
  let c0_i32_1155 : BitVec 32 := 0#32
  let c4_i32_971 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1836 : BitVec 32 := Scalar.muli c4_i32_971 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_972 : BitVec 32 := 1#32
  let v1837 : BitVec 32 := Scalar.addi v29 c1_i32_972
  let c1_i32_973 : BitVec 32 := 1#32
  let v1838 : BitVec 32 := Scalar.addi v1837 c1_i32_973
  let c4_i32_974 : BitVec 32 := 4#32
  let c0_i32_975 : BitVec 32 := 0#32
  let v1839 : BitVec 1 := Scalar.cmpi .eq c4_i32_974 c0_i32_975
  let c1_i32_976 : BitVec 32 := 1#32
  let v1840 : BitVec 32 := Scalar.select v1839 c1_i32_976 c4_i32_974
  let v1841 : BitVec 32 := Scalar.remsi v1838 v1840
  let c0_i32_978 : BitVec 32 := 0#32
  let v1843 : BitVec 1 := Scalar.cmpi .slt v1841 c0_i32_978
  let c0_i32_979 : BitVec 32 := 0#32
  let v1844 : BitVec 1 := Scalar.cmpi .slt v1840 c0_i32_979
  let v1845 : BitVec 1 := Scalar.xori v1843 v1844
  let c0_i32_977 : BitVec 32 := 0#32
  let v1842 : BitVec 1 := Scalar.cmpi .ne v1841 c0_i32_977
  let v1846 : BitVec 1 := Scalar.andi v1845 v1842
  let v1847 : BitVec 32 := Scalar.addi v1841 v1840
  let v1848 : BitVec 32 := Scalar.select v1846 v1847 v1841
  let v1849 : BitVec 32 := Scalar.addi v1836 v1848
  let c1_i32_1154 : BitVec 32 := 1#32
  let v2202 : BitVec 32 := Scalar.muli v1849 c1_i32_1154
  let v2203 : BitVec 32 := Scalar.addi c0_i32_1155 v2202
  v2203.toNat
def k0_dev28 (d0 : Dev nD) : Nat :=
  let c0_i32_1245 : BitVec 32 := 0#32
  let c4_i32_971 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1836 : BitVec 32 := Scalar.muli c4_i32_971 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_972 : BitVec 32 := 1#32
  let v1837 : BitVec 32 := Scalar.addi v29 c1_i32_972
  let c1_i32_973 : BitVec 32 := 1#32
  let v1838 : BitVec 32 := Scalar.addi v1837 c1_i32_973
  let c4_i32_974 : BitVec 32 := 4#32
  let c0_i32_975 : BitVec 32 := 0#32
  let v1839 : BitVec 1 := Scalar.cmpi .eq c4_i32_974 c0_i32_975
  let c1_i32_976 : BitVec 32 := 1#32
  let v1840 : BitVec 32 := Scalar.select v1839 c1_i32_976 c4_i32_974
  let v1841 : BitVec 32 := Scalar.remsi v1838 v1840
  let c0_i32_978 : BitVec 32 := 0#32
  let v1843 : BitVec 1 := Scalar.cmpi .slt v1841 c0_i32_978
  let c0_i32_979 : BitVec 32 := 0#32
  let v1844 : BitVec 1 := Scalar.cmpi .slt v1840 c0_i32_979
  let v1845 : BitVec 1 := Scalar.xori v1843 v1844
  let c0_i32_977 : BitVec 32 := 0#32
  let v1842 : BitVec 1 := Scalar.cmpi .ne v1841 c0_i32_977
  let v1846 : BitVec 1 := Scalar.andi v1845 v1842
  let v1847 : BitVec 32 := Scalar.addi v1841 v1840
  let v1848 : BitVec 32 := Scalar.select v1846 v1847 v1841
  let v1849 : BitVec 32 := Scalar.addi v1836 v1848
  let c1_i32_1244 : BitVec 32 := 1#32
  let v2383 : BitVec 32 := Scalar.muli v1849 c1_i32_1244
  let v2384 : BitVec 32 := Scalar.addi c0_i32_1245 v2383
  v2384.toNat
def k0_dev29 (d0 : Dev nD) : Nat :=
  let c0_i32_1335 : BitVec 32 := 0#32
  let c4_i32_971 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1836 : BitVec 32 := Scalar.muli c4_i32_971 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_972 : BitVec 32 := 1#32
  let v1837 : BitVec 32 := Scalar.addi v29 c1_i32_972
  let c1_i32_973 : BitVec 32 := 1#32
  let v1838 : BitVec 32 := Scalar.addi v1837 c1_i32_973
  let c4_i32_974 : BitVec 32 := 4#32
  let c0_i32_975 : BitVec 32 := 0#32
  let v1839 : BitVec 1 := Scalar.cmpi .eq c4_i32_974 c0_i32_975
  let c1_i32_976 : BitVec 32 := 1#32
  let v1840 : BitVec 32 := Scalar.select v1839 c1_i32_976 c4_i32_974
  let v1841 : BitVec 32 := Scalar.remsi v1838 v1840
  let c0_i32_978 : BitVec 32 := 0#32
  let v1843 : BitVec 1 := Scalar.cmpi .slt v1841 c0_i32_978
  let c0_i32_979 : BitVec 32 := 0#32
  let v1844 : BitVec 1 := Scalar.cmpi .slt v1840 c0_i32_979
  let v1845 : BitVec 1 := Scalar.xori v1843 v1844
  let c0_i32_977 : BitVec 32 := 0#32
  let v1842 : BitVec 1 := Scalar.cmpi .ne v1841 c0_i32_977
  let v1846 : BitVec 1 := Scalar.andi v1845 v1842
  let v1847 : BitVec 32 := Scalar.addi v1841 v1840
  let v1848 : BitVec 32 := Scalar.select v1846 v1847 v1841
  let v1849 : BitVec 32 := Scalar.addi v1836 v1848
  let c1_i32_1334 : BitVec 32 := 1#32
  let v2564 : BitVec 32 := Scalar.muli v1849 c1_i32_1334
  let v2565 : BitVec 32 := Scalar.addi c0_i32_1335 v2564
  v2565.toNat
def k0_dev30 (d0 : Dev nD) : Nat :=
  let c0_i32_1434 : BitVec 32 := 0#32
  let c4_i32_1340 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2574 : BitVec 32 := Scalar.muli c4_i32_1340 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1341 : BitVec 32 := 1#32
  let v2575 : BitVec 32 := Scalar.addi v29 c1_i32_1341
  let c2_i32_1342 : BitVec 32 := 2#32
  let v2576 : BitVec 32 := Scalar.addi v2575 c2_i32_1342
  let c4_i32_1343 : BitVec 32 := 4#32
  let c0_i32_1344 : BitVec 32 := 0#32
  let v2577 : BitVec 1 := Scalar.cmpi .eq c4_i32_1343 c0_i32_1344
  let c1_i32_1345 : BitVec 32 := 1#32
  let v2578 : BitVec 32 := Scalar.select v2577 c1_i32_1345 c4_i32_1343
  let v2579 : BitVec 32 := Scalar.remsi v2576 v2578
  let c0_i32_1347 : BitVec 32 := 0#32
  let v2581 : BitVec 1 := Scalar.cmpi .slt v2579 c0_i32_1347
  let c0_i32_1348 : BitVec 32 := 0#32
  let v2582 : BitVec 1 := Scalar.cmpi .slt v2578 c0_i32_1348
  let v2583 : BitVec 1 := Scalar.xori v2581 v2582
  let c0_i32_1346 : BitVec 32 := 0#32
  let v2580 : BitVec 1 := Scalar.cmpi .ne v2579 c0_i32_1346
  let v2584 : BitVec 1 := Scalar.andi v2583 v2580
  let v2585 : BitVec 32 := Scalar.addi v2579 v2578
  let v2586 : BitVec 32 := Scalar.select v2584 v2585 v2579
  let v2587 : BitVec 32 := Scalar.addi v2574 v2586
  let c1_i32_1433 : BitVec 32 := 1#32
  let v2759 : BitVec 32 := Scalar.muli v2587 c1_i32_1433
  let v2760 : BitVec 32 := Scalar.addi c0_i32_1434 v2759
  v2760.toNat
def k0_dev31 (d0 : Dev nD) : Nat :=
  let c0_i32_1524 : BitVec 32 := 0#32
  let c4_i32_1340 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2574 : BitVec 32 := Scalar.muli c4_i32_1340 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1341 : BitVec 32 := 1#32
  let v2575 : BitVec 32 := Scalar.addi v29 c1_i32_1341
  let c2_i32_1342 : BitVec 32 := 2#32
  let v2576 : BitVec 32 := Scalar.addi v2575 c2_i32_1342
  let c4_i32_1343 : BitVec 32 := 4#32
  let c0_i32_1344 : BitVec 32 := 0#32
  let v2577 : BitVec 1 := Scalar.cmpi .eq c4_i32_1343 c0_i32_1344
  let c1_i32_1345 : BitVec 32 := 1#32
  let v2578 : BitVec 32 := Scalar.select v2577 c1_i32_1345 c4_i32_1343
  let v2579 : BitVec 32 := Scalar.remsi v2576 v2578
  let c0_i32_1347 : BitVec 32 := 0#32
  let v2581 : BitVec 1 := Scalar.cmpi .slt v2579 c0_i32_1347
  let c0_i32_1348 : BitVec 32 := 0#32
  let v2582 : BitVec 1 := Scalar.cmpi .slt v2578 c0_i32_1348
  let v2583 : BitVec 1 := Scalar.xori v2581 v2582
  let c0_i32_1346 : BitVec 32 := 0#32
  let v2580 : BitVec 1 := Scalar.cmpi .ne v2579 c0_i32_1346
  let v2584 : BitVec 1 := Scalar.andi v2583 v2580
  let v2585 : BitVec 32 := Scalar.addi v2579 v2578
  let v2586 : BitVec 32 := Scalar.select v2584 v2585 v2579
  let v2587 : BitVec 32 := Scalar.addi v2574 v2586
  let c1_i32_1523 : BitVec 32 := 1#32
  let v2940 : BitVec 32 := Scalar.muli v2587 c1_i32_1523
  let v2941 : BitVec 32 := Scalar.addi c0_i32_1524 v2940
  v2941.toNat
def k0_dev32 (d0 : Dev nD) : Nat :=
  let c0_i32_1614 : BitVec 32 := 0#32
  let c4_i32_1340 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2574 : BitVec 32 := Scalar.muli c4_i32_1340 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1341 : BitVec 32 := 1#32
  let v2575 : BitVec 32 := Scalar.addi v29 c1_i32_1341
  let c2_i32_1342 : BitVec 32 := 2#32
  let v2576 : BitVec 32 := Scalar.addi v2575 c2_i32_1342
  let c4_i32_1343 : BitVec 32 := 4#32
  let c0_i32_1344 : BitVec 32 := 0#32
  let v2577 : BitVec 1 := Scalar.cmpi .eq c4_i32_1343 c0_i32_1344
  let c1_i32_1345 : BitVec 32 := 1#32
  let v2578 : BitVec 32 := Scalar.select v2577 c1_i32_1345 c4_i32_1343
  let v2579 : BitVec 32 := Scalar.remsi v2576 v2578
  let c0_i32_1347 : BitVec 32 := 0#32
  let v2581 : BitVec 1 := Scalar.cmpi .slt v2579 c0_i32_1347
  let c0_i32_1348 : BitVec 32 := 0#32
  let v2582 : BitVec 1 := Scalar.cmpi .slt v2578 c0_i32_1348
  let v2583 : BitVec 1 := Scalar.xori v2581 v2582
  let c0_i32_1346 : BitVec 32 := 0#32
  let v2580 : BitVec 1 := Scalar.cmpi .ne v2579 c0_i32_1346
  let v2584 : BitVec 1 := Scalar.andi v2583 v2580
  let v2585 : BitVec 32 := Scalar.addi v2579 v2578
  let v2586 : BitVec 32 := Scalar.select v2584 v2585 v2579
  let v2587 : BitVec 32 := Scalar.addi v2574 v2586
  let c1_i32_1613 : BitVec 32 := 1#32
  let v3121 : BitVec 32 := Scalar.muli v2587 c1_i32_1613
  let v3122 : BitVec 32 := Scalar.addi c0_i32_1614 v3121
  v3122.toNat
def k0_dev33 (d0 : Dev nD) : Nat :=
  let c0_i32_1704 : BitVec 32 := 0#32
  let c4_i32_1340 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2574 : BitVec 32 := Scalar.muli c4_i32_1340 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1341 : BitVec 32 := 1#32
  let v2575 : BitVec 32 := Scalar.addi v29 c1_i32_1341
  let c2_i32_1342 : BitVec 32 := 2#32
  let v2576 : BitVec 32 := Scalar.addi v2575 c2_i32_1342
  let c4_i32_1343 : BitVec 32 := 4#32
  let c0_i32_1344 : BitVec 32 := 0#32
  let v2577 : BitVec 1 := Scalar.cmpi .eq c4_i32_1343 c0_i32_1344
  let c1_i32_1345 : BitVec 32 := 1#32
  let v2578 : BitVec 32 := Scalar.select v2577 c1_i32_1345 c4_i32_1343
  let v2579 : BitVec 32 := Scalar.remsi v2576 v2578
  let c0_i32_1347 : BitVec 32 := 0#32
  let v2581 : BitVec 1 := Scalar.cmpi .slt v2579 c0_i32_1347
  let c0_i32_1348 : BitVec 32 := 0#32
  let v2582 : BitVec 1 := Scalar.cmpi .slt v2578 c0_i32_1348
  let v2583 : BitVec 1 := Scalar.xori v2581 v2582
  let c0_i32_1346 : BitVec 32 := 0#32
  let v2580 : BitVec 1 := Scalar.cmpi .ne v2579 c0_i32_1346
  let v2584 : BitVec 1 := Scalar.andi v2583 v2580
  let v2585 : BitVec 32 := Scalar.addi v2579 v2578
  let v2586 : BitVec 32 := Scalar.select v2584 v2585 v2579
  let v2587 : BitVec 32 := Scalar.addi v2574 v2586
  let c1_i32_1703 : BitVec 32 := 1#32
  let v3302 : BitVec 32 := Scalar.muli v2587 c1_i32_1703
  let v3303 : BitVec 32 := Scalar.addi c0_i32_1704 v3302
  v3303.toNat
def k0_dev34 (d0 : Dev nD) : Nat :=
  let c0_i32_1773 : BitVec 32 := 0#32
  let c4_i32_1767 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1760 : BitVec 32 := 1#32
  let v3354 : BitVec 32 := Scalar.addi v19 c1_i32_1760
  let c4_i32_1761 : BitVec 32 := 4#32
  let c0_i32_1762 : BitVec 32 := 0#32
  let v3355 : BitVec 1 := Scalar.cmpi .eq c4_i32_1761 c0_i32_1762
  let c1_i32_1763 : BitVec 32 := 1#32
  let v3356 : BitVec 32 := Scalar.select v3355 c1_i32_1763 c4_i32_1761
  let v3357 : BitVec 32 := Scalar.remsi v3354 v3356
  let c0_i32_1765 : BitVec 32 := 0#32
  let v3359 : BitVec 1 := Scalar.cmpi .slt v3357 c0_i32_1765
  let c0_i32_1766 : BitVec 32 := 0#32
  let v3360 : BitVec 1 := Scalar.cmpi .slt v3356 c0_i32_1766
  let v3361 : BitVec 1 := Scalar.xori v3359 v3360
  let c0_i32_1764 : BitVec 32 := 0#32
  let v3358 : BitVec 1 := Scalar.cmpi .ne v3357 c0_i32_1764
  let v3362 : BitVec 1 := Scalar.andi v3361 v3358
  let v3363 : BitVec 32 := Scalar.addi v3357 v3356
  let v3364 : BitVec 32 := Scalar.select v3362 v3363 v3357
  let v3365 : BitVec 32 := Scalar.muli c4_i32_1767 v3364
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3366 : BitVec 32 := Scalar.addi v3365 v29
  let c1_i32_1772 : BitVec 32 := 1#32
  let v3367 : BitVec 32 := Scalar.muli v3366 c1_i32_1772
  let v3368 : BitVec 32 := Scalar.addi c0_i32_1773 v3367
  v3368.toNat
def k0_dev35 (d0 : Dev nD) : Nat :=
  let c0_i32_1842 : BitVec 32 := 0#32
  let c4_i32_1836 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1829 : BitVec 32 := 2#32
  let v3419 : BitVec 32 := Scalar.addi v19 c2_i32_1829
  let c4_i32_1830 : BitVec 32 := 4#32
  let c0_i32_1831 : BitVec 32 := 0#32
  let v3420 : BitVec 1 := Scalar.cmpi .eq c4_i32_1830 c0_i32_1831
  let c1_i32_1832 : BitVec 32 := 1#32
  let v3421 : BitVec 32 := Scalar.select v3420 c1_i32_1832 c4_i32_1830
  let v3422 : BitVec 32 := Scalar.remsi v3419 v3421
  let c0_i32_1834 : BitVec 32 := 0#32
  let v3424 : BitVec 1 := Scalar.cmpi .slt v3422 c0_i32_1834
  let c0_i32_1835 : BitVec 32 := 0#32
  let v3425 : BitVec 1 := Scalar.cmpi .slt v3421 c0_i32_1835
  let v3426 : BitVec 1 := Scalar.xori v3424 v3425
  let c0_i32_1833 : BitVec 32 := 0#32
  let v3423 : BitVec 1 := Scalar.cmpi .ne v3422 c0_i32_1833
  let v3427 : BitVec 1 := Scalar.andi v3426 v3423
  let v3428 : BitVec 32 := Scalar.addi v3422 v3421
  let v3429 : BitVec 32 := Scalar.select v3427 v3428 v3422
  let v3430 : BitVec 32 := Scalar.muli c4_i32_1836 v3429
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3431 : BitVec 32 := Scalar.addi v3430 v29
  let c1_i32_1841 : BitVec 32 := 1#32
  let v3432 : BitVec 32 := Scalar.muli v3431 c1_i32_1841
  let v3433 : BitVec 32 := Scalar.addi c0_i32_1842 v3432
  v3433.toNat
def k0_dev36 (d0 : Dev nD) : Nat :=
  let c0_i32_1911 : BitVec 32 := 0#32
  let c4_i32_1905 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1898 : BitVec 32 := 3#32
  let v3484 : BitVec 32 := Scalar.addi v19 c3_i32_1898
  let c4_i32_1899 : BitVec 32 := 4#32
  let c0_i32_1900 : BitVec 32 := 0#32
  let v3485 : BitVec 1 := Scalar.cmpi .eq c4_i32_1899 c0_i32_1900
  let c1_i32_1901 : BitVec 32 := 1#32
  let v3486 : BitVec 32 := Scalar.select v3485 c1_i32_1901 c4_i32_1899
  let v3487 : BitVec 32 := Scalar.remsi v3484 v3486
  let c0_i32_1903 : BitVec 32 := 0#32
  let v3489 : BitVec 1 := Scalar.cmpi .slt v3487 c0_i32_1903
  let c0_i32_1904 : BitVec 32 := 0#32
  let v3490 : BitVec 1 := Scalar.cmpi .slt v3486 c0_i32_1904
  let v3491 : BitVec 1 := Scalar.xori v3489 v3490
  let c0_i32_1902 : BitVec 32 := 0#32
  let v3488 : BitVec 1 := Scalar.cmpi .ne v3487 c0_i32_1902
  let v3492 : BitVec 1 := Scalar.andi v3491 v3488
  let v3493 : BitVec 32 := Scalar.addi v3487 v3486
  let v3494 : BitVec 32 := Scalar.select v3492 v3493 v3487
  let v3495 : BitVec 32 := Scalar.muli c4_i32_1905 v3494
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3496 : BitVec 32 := Scalar.addi v3495 v29
  let c1_i32_1910 : BitVec 32 := 1#32
  let v3497 : BitVec 32 := Scalar.muli v3496 c1_i32_1910
  let v3498 : BitVec 32 := Scalar.addi c0_i32_1911 v3497
  v3498.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S16x256x1024 : Shape := ⟨3, ![16, 256, 1024]⟩
abbrev S1024x16384 : Shape := ⟨2, ![1024, 16384]⟩
abbrev S16384x1024 : Shape := ⟨2, ![16384, 1024]⟩
abbrev S16x256x16384 : Shape := ⟨3, ![16, 256, 16384]⟩
abbrev S16x256x128x128 : Shape := ⟨4, ![16, 256, 128, 128]⟩
abbrev S_ : Shape := ⟨0, ![]⟩
abbrev S16x128x256x1 : Shape := ⟨4, ![16, 128, 256, 1]⟩
abbrev S16x128x256x256 : Shape := ⟨4, ![16, 128, 256, 256]⟩
abbrev S16x128x256 : Shape := ⟨3, ![16, 128, 256]⟩
abbrev S16x256x128x1 : Shape := ⟨4, ![16, 256, 128, 1]⟩
abbrev S16x128x128x256 : Shape := ⟨4, ![16, 128, 128, 256]⟩

abbrev nBuf : Space → Nat
  | .hbm => 52
  | .vmem => 0
  | .smem => 0
  | _ => 0

abbrev bufTy : (tb : Table) → Fin (tcTables nBuf tb) → BufTy
  | .hbm, ⟨0, _⟩ => ⟨S16x256x1024, .bf16⟩
  | .hbm, ⟨1, _⟩ => ⟨S1024x16384, .bf16⟩
  | .hbm, ⟨2, _⟩ => ⟨S1024x16384, .bf16⟩
  | .hbm, ⟨3, _⟩ => ⟨S1024x16384, .bf16⟩
  | .hbm, ⟨4, _⟩ => ⟨S16384x1024, .bf16⟩
  | .hbm, ⟨5, _⟩ => ⟨S16x256x16384, .f32⟩
  | .hbm, ⟨6, _⟩ => ⟨S16x256x16384, .bf16⟩
  | .hbm, ⟨7, _⟩ => ⟨S16x256x128x128, .bf16⟩
  | .hbm, ⟨8, _⟩ => ⟨S16x256x16384, .f32⟩
  | .hbm, ⟨9, _⟩ => ⟨S16x256x16384, .bf16⟩
  | .hbm, ⟨10, _⟩ => ⟨S16x256x128x128, .bf16⟩
  | .hbm, ⟨11, _⟩ => ⟨S16x256x16384, .f32⟩
  | .hbm, ⟨12, _⟩ => ⟨S16x256x16384, .bf16⟩
  | .hbm, ⟨13, _⟩ => ⟨S16x256x128x128, .bf16⟩
  | .hbm, ⟨14, _⟩ => ⟨S_, .f32⟩
  | .hbm, ⟨15, _⟩ => ⟨S16x256x128x128, .f32⟩
  | .hbm, ⟨16, _⟩ => ⟨S_, .f32⟩
  | .hbm, ⟨17, _⟩ => ⟨S16x128x256x1, .f32⟩
  | .hbm, ⟨18, _⟩ => ⟨S_, .f32⟩
  | .hbm, ⟨19, _⟩ => ⟨S16x128x256x1, .f32⟩
  | .hbm, ⟨20, _⟩ => ⟨S16x128x256x256, .f32⟩
  | .hbm, ⟨21, _⟩ => ⟨S_, .f32⟩
  | .hbm, ⟨22, _⟩ => ⟨S_, .f32⟩
  | .hbm, ⟨23, _⟩ => ⟨S16x128x256x256, .f32⟩
  | .hbm, ⟨24, _⟩ => ⟨S16x128x256x256, .f32⟩
  | .hbm, ⟨25, _⟩ => ⟨S_, .f32⟩
  | .hbm, ⟨26, _⟩ => ⟨S16x128x256, .f32⟩
  | .hbm, ⟨27, _⟩ => ⟨S16x128x256x1, .f32⟩
  | .hbm, ⟨28, _⟩ => ⟨S16x128x256x1, .f32⟩
  | .hbm, ⟨29, _⟩ => ⟨S16x128x256x1, .f32⟩
  | .hbm, ⟨30, _⟩ => ⟨S16x128x256x1, .f32⟩
  | .hbm, ⟨31, _⟩ => ⟨S16x128x256x256, .f32⟩
  | .hbm, ⟨32, _⟩ => ⟨S16x128x256x256, .f32⟩
  | .hbm, ⟨33, _⟩ => ⟨S16x128x256x256, .f32⟩
  | .hbm, ⟨34, _⟩ => ⟨S16x128x256x1, .f32⟩
  | .hbm, ⟨35, _⟩ => ⟨S_, .f32⟩
  | .hbm, ⟨36, _⟩ => ⟨S16x128x256, .f32⟩
  | .hbm, ⟨37, _⟩ => ⟨S16x128x256x1, .f32⟩
  | .hbm, ⟨38, _⟩ => ⟨S16x128x256x1, .f32⟩
  | .hbm, ⟨39, _⟩ => ⟨S16x256x128x1, .f32⟩
  | .hbm, ⟨40, _⟩ => ⟨S16x256x128x128, .f32⟩
  | .hbm, ⟨41, _⟩ => ⟨S16x256x128x128, .f32⟩
  | .hbm, ⟨42, _⟩ => ⟨S16x256x128x128, .f32⟩
  | .hbm, ⟨43, _⟩ => ⟨S16x128x128x256, .f32⟩
  | .hbm, ⟨44, _⟩ => ⟨S16x256x128x128, .f32⟩
  | .hbm, ⟨45, _⟩ => ⟨S16x256x128x128, .f32⟩
  | .hbm, ⟨46, _⟩ => ⟨S16x256x128x1, .f32⟩
  | .hbm, ⟨47, _⟩ => ⟨S16x256x128x128, .f32⟩
  | .hbm, ⟨48, _⟩ => ⟨S16x256x128x128, .f32⟩
  | .hbm, ⟨49, _⟩ => ⟨S16x256x16384, .f32⟩
  | .hbm, ⟨50, _⟩ => ⟨S16384x1024, .f32⟩
  | .hbm, ⟨51, _⟩ => ⟨S16x256x1024, .f32⟩
  | _, _ => ⟨S16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.Names.lean ====
/-
The exchange's names: devices on the 4 x 4 mesh, the thirty transfers each device starts, the forty-six slots of
its scratch they read and fill, and the generated text's device and offset chains in those names.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mha

open Cert.KernelIdeal Cert.KernelIdeal.Gen

open Idealize.ShloMosaic
open Idealize.ShloMosaic.TcCoe

/-! ## Devices -/

set_option backward.proofsInPublic true in
/-- The device `z` rows and `p` columns on from `c`, both around the mesh. -/
def sh (z p : ℕ) (c : Dev nD) : Dev nD := ⟨4 * ((c.val / 4 + z) % 4) + (c.val % 4 + p) % 4, by show _ < 16; omega⟩

theorem sh_sh (z p z' p' : ℕ) (c : Dev nD) : sh z p (sh z' p' c) = sh (z + z') (p + p') c := by
  apply Fin.ext; show 4 * (((4 * ((c.val / 4 + z') % 4) + (c.val % 4 + p') % 4) / 4 + z) % 4) + ((4 * ((c.val / 4 + z') % 4) + (c.val % 4 + p') % 4) % 4 + p) % 4
    = 4 * ((c.val / 4 + (z + z')) % 4) + (c.val % 4 + (p + p')) % 4
  omega
theorem sh_mod (z p : ℕ) (c : Dev nD) : sh z p c = sh (z % 4) (p % 4) c := by
  apply Fin.ext; show 4 * ((c.val / 4 + z) % 4) + (c.val % 4 + p) % 4 = 4 * ((c.val / 4 + z % 4) % 4) + (c.val % 4 + p % 4) % 4
  omega
theorem sh_zero (c : Dev nD) : sh 0 0 c = c := by
  have h : c.val < 16 := c.isLt
  apply Fin.ext; show 4 * ((c.val / 4 + 0) % 4) + (c.val % 4 + 0) % 4 = c.val
  omega

/-! ## Transfers and slots -/

/-- The transfers a device starts: its block of `x` down its column, every block of its column along its row, the
    partial products along the row, the row's sums down the column. -/
inductive Snd
  | col (k : Fin 3)
  | pl (o : Fin 4) (j : Fin 3)
  | rs (o : Fin 4) (j : Fin 3)
  | rz (k : Fin 3)
  deriving DecidableEq, Fintype

/-- The slots of a device's scratch: a gathered block of `x` (by how far its device lies), a partial product to
    send, one received, a row sum to send, one received. -/
inductive Slot
  | xg (z p : Fin 4)
  | pt (o : Fin 4) (j : Fin 3)
  | rp (o : Fin 4) (j : Fin 3)
  | zs (k : Fin 3)
  | zr (k : Fin 3)
  deriving DecidableEq, Fintype

/-- Where a transfer goes: `tz`/`tp` rows and columns on. -/
def Snd.tz : Snd → ℕ | col k => k.val + 1 | pl _ _ => 0 | rs _ _ => 0 | rz k => k.val + 1
def Snd.tp : Snd → ℕ | col _ => 0 | pl _ j => j.val + 1 | rs _ j => j.val + 1 | rz _ => 0
def tgt (i : Snd) (c : Dev nD) : Dev nD := sh i.tz i.tp c
/-- Where it comes from. -/
def frm (i : Snd) (c : Dev nD) : Dev nD := sh (4 - i.tz) (4 - i.tp) c

theorem Snd.tz_le (i : Snd) : i.tz ≤ 4 := by revert i; decide
theorem Snd.tp_le (i : Snd) : i.tp ≤ 4 := by revert i; decide
theorem tgt_frm (i : Snd) (c : Dev nD) : tgt i (frm i c) = c := by
  have h1 := i.tz_le; have h2 := i.tp_le
  unfold tgt frm; rw [sh_sh, show i.tz + (4 - i.tz) = 4 by omega, show i.tp + (4 - i.tp) = 4 by omega, sh_mod]; exact sh_zero c
theorem frm_tgt (i : Snd) (c : Dev nD) : frm i (tgt i c) = c := by
  have h1 := i.tz_le; have h2 := i.tp_le
  unfold tgt frm; rw [sh_sh, show (4 - i.tz) + i.tz = 4 by omega, show (4 - i.tp) + i.tp = 4 by omega, sh_mod]; exact sh_zero c

/-- The slot a transfer reads, the slot it fills on its target, which eighth of the source's share it holds. -/
def ss : Snd → Slot | .col _ => .xg 0 0 | .pl o _ => .xg o 0 | .rs o j => .pt o j | .rz k => .zs k
def ds : Snd → Slot | .col k => .xg k.rev.succ 0 | .pl o j => .xg o j.rev.succ | .rs o j => .rp o j.rev | .rz k => .zr k.rev
def lf : Snd → Fin 8 | .col k => ⟨k.val, by omega⟩ | .pl _ j => ⟨j.val + 3, by omega⟩ | .rs _ _ => 0 | .rz _ => 0

theorem ds_injective : Function.Injective ds := by decide

/-- The barrier's six directions: the column's three, then the row's three. -/
def bz (d : Fin 6) : ℕ := if d.val < 3 then d.val + 1 else 0
def bp (d : Fin 6) : ℕ := if d.val < 3 then 0 else d.val - 2
def bt (d : Fin 6) (c : Dev nD) : Dev nD := sh (bz d) (bp d) c
def opp (d : Fin 6) : Fin 6 := if h : d.val < 3 then ⟨2 - d.val, by omega⟩ else ⟨8 - d.val, by omega⟩
theorem bt_opp (d : Fin 6) (c : Dev nD) : bt d (bt (opp d) c) = c := by revert d c; decide +kernel
theorem opp_opp (d : Fin 6) : opp (opp d) = d := by revert d; decide
/-- The direction of a transfer. -/
def dirOf : Snd → Fin 6 | .col k => ⟨k.val, by omega⟩ | .pl _ j => ⟨j.val + 3, by omega⟩ | .rs _ j => ⟨j.val + 3, by omega⟩ | .rz k => ⟨k.val, by omega⟩
theorem tgt_eq_bt (i : Snd) (c : Dev nD) : tgt i c = bt (dirOf i) c := by revert i c; decide +kernel

/-! ## Semaphores -/

/-- The send and the receive semaphore of a transfer. -/
def sendId : Snd → ℕ
  | .col k => 6 + k.val | .pl o j => 13 + 3 * o.val + j.val | .rs o j => 37 + 3 * o.val + j.val | .rz k => 61 + k.val
def recvId : Snd → ℕ
  | .col k => 12 - k.val | .pl o j => 25 + 3 * o.val + (2 - j.val) | .rs o j => 49 + 3 * o.val + (2 - j.val) | .rz k => 67 - k.val
theorem sendId_lt (i : Snd) : sendId i < 68 := by revert i; decide
theorem recvId_lt (i : Snd) : recvId i < 68 := by revert i; decide
set_option backward.proofsInPublic true in
def sendS (i : Snd) : DmaSem sig := ⟨sendId i, sendId_lt i⟩
set_option backward.proofsInPublic true in
def recvS (i : Snd) : DmaSem sig := ⟨recvId i, recvId_lt i⟩
theorem sendS_injective : Function.Injective sendS := by decide +kernel
theorem recvS_injective : Function.Injective recvS := by decide +kernel
theorem sendS_ne_recvS (i j : Snd) : sendS i ≠ recvS j := by revert i j; decide +kernel

/-- The barrier semaphore of collective id 0. -/
abbrev barS : Sem sig := (SemArray.scalar (sig.barrier 0 rfl) : Sems sig S_).sem

/-! ## The program's device chains -/

def devOf : Snd → Dev nD → ℕ
  | .col 0 => k0_dev7 | .col 1 => k0_dev8 | .col 2 => k0_dev9
  | .pl 0 0 => k0_dev10 | .pl 0 1 => k0_dev11 | .pl 0 2 => k0_dev12
  | .pl 1 0 => k0_dev13 | .pl 1 1 => k0_dev14 | .pl 1 2 => k0_dev15
  | .pl 2 0 => k0_dev16 | .pl 2 1 => k0_dev17 | .pl 2 2 => k0_dev18
  | .pl 3 0 => k0_dev19 | .pl 3 1 => k0_dev20 | .pl 3 2 => k0_dev21
  | .rs 0 0 => k0_dev22 | .rs 1 0 => k0_dev23 | .rs 2 0 => k0_dev24 | .rs 3 0 => k0_dev25
  | .rs 0 1 => k0_dev26 | .rs 1 1 => k0_dev27 | .rs 2 1 => k0_dev28 | .rs 3 1 => k0_dev29
  | .rs 0 2 => k0_dev30 | .rs 1 2 => k0_dev31 | .rs 2 2 => k0_dev32 | .rs 3 2 => k0_dev33
  | .rz 0 => k0_dev34 | .rz 1 => k0_dev35 | .rz 2 => k0_dev36
theorem devOf_eq : ∀ (i : Snd) (c : Dev nD), devOf i c = (tgt i c).val := by decide +kernel
/-- The device the program names for transfer `i` is its target. -/
theorem dev_eq (i : Snd) (c : Dev nD) (h : devOf i c < nD) : (⟨devOf i c, h⟩ : Dev nD) = tgt i c := Fin.ext (devOf_eq i c)

/-- The directions the six signals take, in program order. -/
def sigDev : Fin 6 → Dev nD → ℕ | 0 => k0_dev1 | 1 => k0_dev2 | 2 => k0_dev3 | 3 => k0_dev4 | 4 => k0_dev5 | 5 => k0_dev6
theorem sigDev_eq : ∀ (d : Fin 6) (c : Dev nD), sigDev d c = (bt d c).val := by decide +kernel
theorem sig_eq (d : Fin 6) (c : Dev nD) (h : sigDev d c < nD) : (⟨sigDev d c, h⟩ : Dev nD) = bt d c := Fin.ext (sigDev_eq d c)

/-! ## The program's slot offsets -/

/-- The first row of the gathered block of the device `z`, `p` on. -/
def xgOff (z p : Fin 4) (c : Dev nD) : Fin 3 → ℕ := ![(sh z.val p.val c).val, 0, 0]
theorem off1_eq : ∀ c : Dev nD, k0_off1 c = xgOff 0 0 c := by decide +kernel
theorem off2_eq : ∀ c : Dev nD, k0_off2 c = xgOff 0 0 c := by decide +kernel
theorem off3_eq : ∀ (c : Dev nD) (o : Fin 4), k0_off3 c (BitVec.ofNat 32 o.val) = xgOff o 0 c := by decide +kernel
theorem off4_eq : ∀ (c : Dev nD) (o : Fin 4), k0_off4 c (BitVec.ofNat 32 o.val) = xgOff o 0 c := by decide +kernel
theorem off5_eq : ∀ (c : Dev nD) (o : Fin 4) (j : Fin 3), k0_off5 c (BitVec.ofNat 32 o.val) (BitVec.ofNat 32 j.val) = xgOff o j.succ c := by decide +kernel
theorem off6_eq : ∀ (c : Dev nD) (o : Fin 4) (j : Fin 3), k0_off6 c (BitVec.ofNat 32 o.val) (BitVec.ofNat 32 j.val) = xgOff o j.succ c := by decide +kernel

end Cert.Mha

end
-- ==== Proof.Values.lean ====
/-
What the kernel computes, as functions of the staged inputs of all devices: one device's attention block and its
product with that device's rows of `Wo`, the sums along a row, the sums down a column.
-/
module

public import proofs.«01_k».proof.Proof.Names

@[expose] public section

noncomputable section

namespace Cert.Mha

open Cert.KernelIdeal Cert.KernelIdeal.Gen

open Idealize.ShloMosaic
open Idealize.ShloMosaic.TcCoe

variable {F : FTy → Type} [FloatOps F] [Named F]

/-- The staged inputs: each device's block of `x`, its columns of `Wq`, `Wk`, `Wv`, its rows of `Wo`. -/
structure Ins (F : FTy → Type) where
  x : Dev nD → FVec F S1x256x1024 .bf16
  q : Dev nD → FVec F S1024x1024 .bf16
  k : Dev nD → FVec F S1024x1024 .bf16
  v : Dev nD → FVec F S1024x1024 .bf16
  o : Dev nD → FVec F S1024x1024 .bf16

/-- A projection of a block of `x`. -/
def projV (x : FVec F S1x256x1024 .bf16) (w : FVec F S1024x1024 .bf16) : FVec F S256x1024 .bf16 :=
  truncf .bf16 (matmul dot_S256x1024_S1024x1024_S256x1024_1_0_0_1_n_n none (shapeCast S256x1024 x shapeCasts_S1x256x1024_S256x1024) w
    (constant S256x1024 .f32 0x00000000#32)) bitsLt_bf16_f32

/-- The scaled columns of `Wq`. -/
def scaleV (w : FVec F S1024x1024 .bf16) : FVec F S1024x1024 .bf16 :=
  mulf (shapeCast S1024x1024 w shapeCasts_S1024x1024_S1024x1024) (broadcast S1024x1024 (Named.named κ "scale" 0x3DB5#16))

/-- The exponentials of a head's scores. -/
def expV (off : Fin 2 → ℕ) (h : S256x1024.Slices off S256x128) (q k : FVec F S256x1024 .bf16) : FVec F S256x256 .bf16 :=
  exp (truncf .bf16 (matmul dot_S256x128_S256x128_S256x256_1_1_0_0_n_n none (extractStridedSlice S256x128 off q h)
    (extractStridedSlice S256x128 off k h) (constant S256x256 .f32 0x00000000#32)) bitsLt_bf16_f32)

/-- A head's rows, divided by their sums after the product with `V`. -/
def headV (off : Fin 2 → ℕ) (h : S256x1024.Slices off S256x128) (q k v : FVec F S256x1024 .bf16) : FVec F S256x128 .f32 :=
  mulf (matmul dot_S256x256_S256x128_S256x128_1_0_0_1_n_n none (expV off h q k) (extractStridedSlice S256x128 off v h)
      (constant S256x128 .f32 0x00000000#32))
    (broadcastTo S256x128 (divf (broadcast S256x1 (Scalar.ofBits .f32 0x3F800000#32))
      (shapeCast S256x1 (multiReduction .add [1] S256 (extf .f32 (expV off h q k) bitsLt_bf16_f32) 0x00000000#32 reduces_S256x256_S256 (.inl rfl) rfl)
        shapeCasts_S256_S256x1)) broadcasts_S256x1_S256x128)

/-- The eight heads side by side. -/
def attV (q k v : FVec F S256x1024 .bf16) : FVec F S256x1024 .bf16 :=
  truncf .bf16 (concatenate S256x1024 1
    [⟨S256x128, headV ![0, 0] slices_S256x1024_o0_0_S256x128 q k v⟩, ⟨S256x128, headV ![0, 128] slices_S256x1024_o0_128_S256x128 q k v⟩,
     ⟨S256x128, headV ![0, 256] slices_S256x1024_o0_256_S256x128 q k v⟩, ⟨S256x128, headV ![0, 384] slices_S256x1024_o0_384_S256x128 q k v⟩,
     ⟨S256x128, headV ![0, 512] slices_S256x1024_o0_512_S256x128 q k v⟩, ⟨S256x128, headV ![0, 640] slices_S256x1024_o0_640_S256x128 q k v⟩,
     ⟨S256x128, headV ![0, 768] slices_S256x1024_o0_768_S256x128 q k v⟩, ⟨S256x128, headV ![0, 896] slices_S256x1024_o0_896_S256x128 q k v⟩]
    concatenates_S256x128_S256x128_S256x128_S256x128_S256x128_S256x128_S256x128_S256x128_S256x1024_d1) bitsLt_bf16_f32

/-- A device's share of the result for a block of `x`: from its columns of `Wq`, `Wk`, `Wv` and its rows of `Wo`. -/
def partV (x : FVec F S1x256x1024 .bf16) (q k v o : FVec F S1024x1024 .bf16) : FVec F S256x1024 .f32 :=
  matmul dot_S256x1024_S1024x1024_S256x1024_1_0_0_1_n_n none
    (attV (projV x (scaleV q)) (projV x (shapeCast S1024x1024 k shapeCasts_S1024x1024_S1024x1024)) (projV x (shapeCast S1024x1024 v shapeCasts_S1024x1024_S1024x1024)))
    (shapeCast S1024x1024 o shapeCasts_S1024x1024_S1024x1024) (constant S256x1024 .f32 0x00000000#32)

variable (I : Ins F)

/-- The block of `x` of device `b`, as the kernel keeps it. -/
def xbV (b : Dev nD) : FVec F S1x256x1024 .bf16 := k0_pay1 (I.x b)
/-- Device `d`'s share for device `b`'s block. -/
def shareV (d b : Dev nD) : FVec F S256x1024 .f32 := partV (xbV I b) (I.q d) (I.k d) (I.v d) (I.o d)
def psV (d b : Dev nD) : FVec F S1x256x1024 .f32 := shapeCast S1x256x1024 (shareV I d b) shapeCasts_S256x1024_S1x256x1024
def ptV (d b : Dev nD) : FVec F S1x1x256x1024 .bf16 := shapeCast S1x1x256x1024 (truncf .bf16 (shareV I d b) bitsLt_bf16_f32) shapeCasts_S256x1024_S1x1x256x1024
/-- The sum along device `c`'s row of the shares for the block of the device `o` rows on. -/
def rowV (o : ℕ) (c : Dev nD) : FVec F S256x1024 .f32 :=
  addf (addf (addf (shapeCast S256x1024 (psV I c (sh o 0 c)) shapeCasts_S1x256x1024_S256x1024)
    (extf .f32 (shapeCast S256x1024 (ptV I (sh 0 3 c) (sh o 0 c)) shapeCasts_S1x1x256x1024_S256x1024) bitsLt_bf16_f32))
    (extf .f32 (shapeCast S256x1024 (ptV I (sh 0 2 c) (sh o 0 c)) shapeCasts_S1x1x256x1024_S256x1024) bitsLt_bf16_f32))
    (extf .f32 (shapeCast S256x1024 (ptV I (sh 0 1 c) (sh o 0 c)) shapeCasts_S1x1x256x1024_S256x1024) bitsLt_bf16_f32)
/-- That sum, as sent down the column. -/
def zsV (o : ℕ) (c : Dev nD) : FVec F S1x256x1024 .bf16 := shapeCast S1x256x1024 (truncf .bf16 (rowV I o c) bitsLt_bf16_f32) shapeCasts_S256x1024_S1x256x1024
def accV (c : Dev nD) : FVec F S1x256x1024 .f32 := shapeCast S1x256x1024 (rowV I 0 c) shapeCasts_S256x1024_S1x256x1024
/-- Device `c`'s result. -/
def outV (c : Dev nD) : FVec F S1x256x1024 .f32 :=
  shapeCast S1x256x1024 (addf (addf (addf (shapeCast S256x1024 (accV I c) shapeCasts_S1x256x1024_S256x1024)
    (extf .f32 (shapeCast S256x1024 (zsV I 1 (sh 3 0 c)) shapeCasts_S1x256x1024_S256x1024) bitsLt_bf16_f32))
    (extf .f32 (shapeCast S256x1024 (zsV I 2 (sh 2 0 c)) shapeCasts_S1x256x1024_S256x1024) bitsLt_bf16_f32))
    (extf .f32 (shapeCast S256x1024 (zsV I 3 (sh 1 0 c)) shapeCasts_S1x256x1024_S256x1024) bitsLt_bf16_f32)) shapeCasts_S256x1024_S1x256x1024

/-! ## What each slot holds -/

/-- What a slot of device `c` holds once filled. -/
def sX : Slot → Dev nD → (S256x1024.Idx → Elt F .bf16)
  | .xg z p, c => shapeCast S256x1024 (xbV I (sh z.val p.val c)) shapeCasts_S1x256x1024_S256x1024
  | .pt o j, c => shapeCast S256x1024 (ptV I c (sh o.val (j.val + 1) c)) shapeCasts_S1x1x256x1024_S256x1024
  | .rp o j, c => shapeCast S256x1024 (ptV I (sh 0 (j.val + 1) c) (sh o.val 0 c)) shapeCasts_S1x1x256x1024_S256x1024
  | .zs k, c => shapeCast S256x1024 (zsV I (k.val + 1) c) shapeCasts_S1x256x1024_S256x1024
  | .zr k, c => shapeCast S256x1024 (zsV I (3 - k.val) (sh (k.val + 1) 0 c)) shapeCasts_S1x256x1024_S256x1024

/-- What a transfer reads is what its target's slot is to hold. -/
theorem sX_send (i : Snd) (c : Dev nD) : sX I (ds i) (tgt i c) = sX I (ss i) c := by
  have e1 : ∀ (z p : ℕ) (b : Dev nD), z % 4 = 0 → p % 4 = 0 → sh z p b = b := fun z p b hz hp => by
    rw [sh_mod, hz, hp]; exact sh_zero b
  rcases i with k | ⟨o, j⟩ | ⟨o, j⟩ | k
  · show shapeCast _ (xbV I (sh k.rev.succ.val 0 (sh (k.val + 1) 0 c))) _ = shapeCast _ (xbV I (sh 0 0 c)) _
    rw [sh_sh, e1 _ _ _ (by have := k.isLt; simp only [Fin.val_succ, Fin.val_rev]; omega) rfl, sh_zero]
  · show shapeCast _ (xbV I (sh o.val j.rev.succ.val (sh 0 (j.val + 1) c))) _ = shapeCast _ (xbV I (sh o.val 0 c)) _
    rw [sh_sh, sh_mod, show (j.rev.succ.val + (j.val + 1)) % 4 = 0 by have := j.isLt; simp only [Fin.val_succ, Fin.val_rev]; omega,
      show (o.val + 0) % 4 = o.val by have := o.isLt; omega]
  · show shapeCast _ (ptV I (sh 0 (j.rev.val + 1) (sh 0 (j.val + 1) c)) (sh o.val 0 (sh 0 (j.val + 1) c))) _ = shapeCast _ (ptV I c (sh o.val (j.val + 1) c)) _
    rw [sh_sh, e1 _ _ _ rfl (by have := j.isLt; simp only [Fin.val_rev]; omega), sh_sh, Nat.add_zero, Nat.zero_add]
  · show shapeCast _ (zsV I (3 - k.rev.val) (sh (k.rev.val + 1) 0 (sh (k.val + 1) 0 c))) _ = shapeCast _ (zsV I (k.val + 1) c) _
    rw [sh_sh, e1 _ _ _ (by have := k.isLt; simp only [Fin.val_rev]; omega) rfl,
      show 3 - k.rev.val = k.val + 1 by have := k.isLt; simp only [Fin.val_rev]; omega]

end Cert.Mha

end
-- ==== Proof.Protocol.lean ====
/-
The exchange's protocol: the slots as memrefs, what each holds, the rounds schedule of the barrier and the transfer
semaphores, the levels that order the waits, and what a device owes.
-/
module

public import proofs.«01_k».proof.Proof.Values
public import Idealize.ShloMosaic.Lib.ShareLeaves

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The slots -/

theorem xgOff_inb (z p : Fin 4) (c : Dev nD) : ∀ a, xgOff z p c a + S1x256x1024.size a ≤ S16x256x1024.size a := by
  intro a
  have h : (sh z.val p.val c).val < 16 := (sh z.val p.val c).isLt
  fin_cases a
  · show (sh z.val p.val c).val + 1 ≤ 16; omega
  · show 0 + 256 ≤ 256; omega
  · show 0 + 1024 ≤ 1024; omega
theorem pairOff_inb (o : Fin 4) (j : Fin 3) : ∀ a, (![o.val, j.val, 0, 0] : Fin 4 → ℕ) a + S1x1x256x1024.size a ≤ S4x3x256x1024.size a := by
  revert o j; decide
theorem oneOff_inb (k : Fin 3) : ∀ a, (![k.val, 0, 0] : Fin 3 → ℕ) a + S1x256x1024.size a ≤ S3x256x1024.size a := by
  revert k; decide

set_option backward.proofsInPublic true in
/-- A slot of device `c` as the program names it: a row of a scratch buffer, its unit axes dropped. -/
def sM : Slot → Dev nD → Memref sig .tc .vmem S256x1024 .bf16
  | .xg z p, c => ((Memref.whole cc0_scratch0).slice (Rect.unit (s := S16x256x1024) (xgOff z p c) S1x256x1024.size (xgOff_inb z p c)) (fun _ => rfl)).squeeze S256x1024 squeezes_S1x256x1024_S256x1024
  | .pt o j, _ => ((Memref.whole cc0_scratch2).slice (Rect.unit (s := S4x3x256x1024) ![o.val, j.val, 0, 0] S1x1x256x1024.size (pairOff_inb o j)) (fun _ => rfl)).squeeze S256x1024 squeezes_S1x1x256x1024_S256x1024
  | .rp o j, _ => ((Memref.whole cc0_scratch3).slice (Rect.unit (s := S4x3x256x1024) ![o.val, j.val, 0, 0] S1x1x256x1024.size (pairOff_inb o j)) (fun _ => rfl)).squeeze S256x1024 squeezes_S1x1x256x1024_S256x1024
  | .zs k, _ => ((Memref.whole cc0_scratch4).slice (Rect.unit (s := S3x256x1024) ![k.val, 0, 0] S1x256x1024.size (oneOff_inb k)) (fun _ => rfl)).squeeze S256x1024 squeezes_S1x256x1024_S256x1024
  | .zr k, _ => ((Memref.whole cc0_scratch5).slice (Rect.unit (s := S3x256x1024) ![k.val, 0, 0] S1x256x1024.size (oneOff_inb k)) (fun _ => rfl)).squeeze S256x1024 squeezes_S1x256x1024_S256x1024

/-- A slot's credit on a transfer semaphore. -/
abbrev N : ℕ := RefSig.tileCredit ⟨2, ![256, 1024]⟩ .bf16
theorem N_pos : 0 < N := RefSig.tileCredit_pos _ _ (by decide)
theorem amount_slot (s : Slot) (c : Dev nD) (q : DmaSem sig) : (sM s c).view.amount (.dma q) = N := by
  cases s <;> rfl

/-- Slot `s` of device `c`, whole, at some contents. -/
def anyS (s : Slot) (c : Dev nD) : sProp 𝕄 := iprop(∃ X, owns (c : Thread nD τ) (sM s c) fullShare X)
/-- The share of a filled slot that leaf `L` stands for. -/
def leafQ (L : Fin 8) : PosShare TreeShare := ShareLeaves.leaf 3 fullShare L

variable (I : Ins F)

def leafS (L : Fin 8) (s : Slot) (c : Dev nD) : sProp 𝕄 := owns (c : Thread nD τ) (sM s c) (leafQ L) (sX I s c)
/-- Slot `s` of device `c`, whole, filled. -/
def fullS (s : Slot) (c : Dev nD) : sProp 𝕄 := owns (c : Thread nD τ) (sM s c) fullShare (sX I s c)

/-! ## The schedule -/

abbrev barCell (c : Dev nD) : GSem nD τ sig := ((c : Thread nD τ), .reg barS)
abbrev sendCell (i : Snd) (c : Dev nD) : GSem nD τ sig := ((c : Thread nD τ), .dma (sendS i))
abbrev recvCell (i : Snd) (c : Dev nD) : GSem nD τ sig := ((c : Thread nD τ), .dma (recvS i))

/-- What the signal of direction `d` hands `c`: the slots of the device in that direction which `c`'s transfers fill. -/
def barPay (d : Fin 6) (c : Dev nD) : sProp 𝕄 :=
  bigSep (Finset.univ.filter fun i : Snd => dirOf i = d) fun i => anyS (ds i) (tgt i c)
/-- What the landing of `c`'s transfer `i` gives `c` back. -/
def sendPay (i : Snd) (c : Dev nD) : sProp 𝕄 := leafS I (lf i) (ss i) c
/-- What the landing of transfer `i` gives its target. -/
def recvPay (i : Snd) (c : Dev nD) : sProp 𝕄 := fullS I (ds i) c

/-- The transfer semaphores in use. -/
abbrev Used (q : DmaSem sig) : Prop := ∃ i : Snd, sendS i = q ∨ recvS i = q

def rdPay : SemLoc sig → Fin 6 → Dev nD → sProp 𝕄
  | .reg _, d, c => barPay d c
  | .dma q, _, c => iprop(bigSep (Finset.univ.filter fun i : Snd => sendS i = q) (fun i => sendPay I i c)
      ∗ bigSep (Finset.univ.filter fun i : Snd => recvS i = q) (fun i => recvPay I i c))
def rdDuties : SemLoc sig → Finset (Fin 6)
  | .reg s => if s = barS then Finset.univ else ∅
  | .dma q => if Used q then {0} else ∅

def rdAmount : SemLoc sig → ℕ | .reg _ => 1 | .dma _ => N
theorem rdAmount_pos : ∀ q, 0 < rdAmount q | .reg _ => Nat.one_pos | .dma _ => N_pos

/-- One round: a barrier cell has six duties of one unit each, a transfer cell in use one duty of a slot's credit. -/
def rd : Rounds.Schedule (GSem nD τ sig) (Fin 6) 𝕄 where
  duties g r := if r = 0 ∧ g.1.2 = .tc then rdDuties g.2 else ∅
  unitless _ := False
  amount g _ _ := rdAmount g.2
  payload g _ d := rdPay I g.2 d g.1.1
  amount_pos g _ _ _ := rdAmount_pos g.2

instance leafS_storable (L : Fin 8) (s : Slot) (c : Dev nD) : BI.Storable (upEmb : UEmb _ 𝕄) (leafS I L s c) := by unfold leafS; infer_instance
instance fullS_storable (s : Slot) (c : Dev nD) : BI.Storable (upEmb : UEmb _ 𝕄) (fullS I s c) := by unfold fullS; infer_instance
instance anyS_storable (s : Slot) (c : Dev nD) : BI.Storable (upEmb : UEmb _ 𝕄) (anyS s c) := by unfold anyS; infer_instance
instance rd_storable (g : GSem nD τ sig) (r : ℕ) (d : Fin 6) : BI.Storable (upEmb : UEmb _ 𝕄) ((rd I).payload g r d) := by
  show BI.Storable upEmb (rdPay I g.2 d g.1.1)
  rcases g with ⟨t, s | q⟩
  · show BI.Storable upEmb (barPay d t.1); unfold barPay; infer_instance
  · show BI.Storable upEmb (iprop(bigSep (Finset.univ.filter fun i : Snd => sendS i = q) (fun i => sendPay I i t.1)
      ∗ bigSep (Finset.univ.filter fun i : Snd => recvS i = q) (fun i => recvPay I i t.1)))
    unfold sendPay recvPay; infer_instance

section Sched
variable (c : Dev nD) (i : Snd)

theorem duties_bar : (rd I).duties (barCell c) 0 = Finset.univ := by
  show (if 0 = 0 ∧ ((c : Thread nD τ)).2 = .tc then rdDuties (.reg barS) else ∅) = _
  rw [if_pos ⟨rfl, rfl⟩]; show (if barS = barS then Finset.univ else ∅) = _; exact if_pos rfl
theorem duties_send : (rd I).duties (sendCell i c) 0 = {0} := by
  show (if 0 = 0 ∧ ((c : Thread nD τ)).2 = .tc then rdDuties (.dma (sendS i)) else ∅) = _
  rw [if_pos ⟨rfl, rfl⟩]; exact if_pos ⟨i, .inl rfl⟩
theorem duties_recv : (rd I).duties (recvCell i c) 0 = {0} := by
  show (if 0 = 0 ∧ ((c : Thread nD τ)).2 = .tc then rdDuties (.dma (recvS i)) else ∅) = _
  rw [if_pos ⟨rfl, rfl⟩]; exact if_pos ⟨i, .inr rfl⟩
theorem duties_later (g : GSem nD τ sig) : ∀ r, 1 ≤ r → (rd I).duties g r = ∅ := fun r hr => if_neg fun h => by omega
theorem duties_unused (q : DmaSem sig) (h : ¬ Used q) : ∀ r, 0 ≤ r → (rd I).duties ((c : Thread nD τ), .dma q) r = ∅ := fun r hr => by
  show (if r = 0 ∧ ((c : Thread nD τ)).2 = .tc then rdDuties (.dma q) else ∅) = _
  split
  · exact if_neg h
  · rfl

theorem expect_bar : (rd I).expect (barCell c) 0 = 6 := by
  unfold Schedule.expect Schedule.amountOf
  rw [duties_bar]; exact (Finset.sum_const 1).trans rfl
theorem expect_send : (rd I).expect (sendCell i c) 0 = N := by
  unfold Schedule.expect Schedule.amountOf; rw [duties_send, Finset.sum_singleton]; rfl
theorem expect_recv : (rd I).expect (recvCell i c) 0 = N := by
  unfold Schedule.expect Schedule.amountOf; rw [duties_recv, Finset.sum_singleton]; rfl

theorem payload_bar (d : Fin 6) : (rd I).payload (barCell c) 0 d = barPay d c := rfl
theorem payload_send (d : Fin 6) : (rd I).payload (sendCell i c) 0 d = sendPay I i c := by
  have e1 : (Finset.univ.filter fun j : Snd => sendS j = sendS i) = {i} := by
    ext j; rw [Finset.mem_filter, Finset.mem_singleton, sendS_injective.eq_iff, and_iff_right (Finset.mem_univ j)]
  have e2 : (Finset.univ.filter fun j : Snd => recvS j = sendS i) = ∅ :=
    Finset.filter_eq_empty_iff.mpr fun j _ h => sendS_ne_recvS i j h.symm
  refine Eq.trans (congrArg₂ (fun A B : Finset Snd => iprop(bigSep A (fun j => sendPay I j c) ∗ bigSep B (fun j => recvPay I j c))) e1 e2) ?_
  rw [bigSep_singleton, bigSep_empty]
  exact equiv_iff.mp Idealize.SL.BI.sep_emp
theorem payload_recv (d : Fin 6) : (rd I).payload (recvCell i c) 0 d = recvPay I i c := by
  have e1 : (Finset.univ.filter fun j : Snd => recvS j = recvS i) = {i} := by
    ext j; rw [Finset.mem_filter, Finset.mem_singleton, recvS_injective.eq_iff, and_iff_right (Finset.mem_univ j)]
  have e2 : (Finset.univ.filter fun j : Snd => sendS j = recvS i) = ∅ :=
    Finset.filter_eq_empty_iff.mpr fun j _ h => sendS_ne_recvS j i h
  refine Eq.trans (congrArg₂ (fun A B : Finset Snd => iprop(bigSep A (fun j => sendPay I j c) ∗ bigSep B (fun j => recvPay I j c))) e2 e1) ?_
  rw [bigSep_singleton, bigSep_empty]
  exact equiv_iff.mp Idealize.SL.BI.emp_sep

theorem rest_send : bigSep ((rd I).duties (sendCell i c) 0 \ ∅) (fun d => (rd I).payload (sendCell i c) 0 d) = sendPay I i c := by
  rw [Finset.sdiff_empty, duties_send, bigSep_singleton, payload_send]
theorem rest_recv : bigSep ((rd I).duties (recvCell i c) 0 \ ∅) (fun d => (rd I).payload (recvCell i c) 0 d) = recvPay I i c := by
  rw [Finset.sdiff_empty, duties_recv, bigSep_singleton, payload_recv]
/-- The whole round of a barrier cell: every slot on another device that `c`'s transfers fill. -/
theorem rest_bar : bigSep ((rd I).duties (barCell c) 0 \ ∅) (fun d => (rd I).payload (barCell c) 0 d)
    = (bigSep Finset.univ fun i : Snd => anyS (F := F) (ds i) (tgt i c)) := by
  rw [Finset.sdiff_empty, duties_bar, bigSep_congr (fun d _ => payload_bar I c d)]
  have hU : (Finset.univ : Finset Snd) = (Finset.univ : Finset (Fin 6)).biUnion fun d => Finset.univ.filter fun i : Snd => dirOf i = d := by
    ext i; simp only [Finset.mem_univ, Finset.mem_biUnion, Finset.mem_filter, true_and, exists_eq']
  refine Eq.trans (bigSep_congr fun d _ => ?_) ((congrArg (fun S => bigSep S fun i : Snd => anyS (F := F) (ds i) (tgt i c)) hU).trans
    (bigSep_biUnion_eq _ _ _ fun d _ d' _ h => Finset.disjoint_filter.mpr fun i _ h1 h2 => h (h1.symm.trans h2))).symm
  rfl

end Sched

/-! ## Levels -/

/-- The level of a transfer's receive cell. -/
def lvR : Snd → ℕ | .col _ => 2 | .pl _ _ => 3 | .rs _ _ => 4 | .rz _ => 5
def L (g : GSem nD τ sig) : Finset Unit := if g.1.2 = .tc then {()} else ∅
/-- Barrier cells at 1; receive cells at 2 to 5, kind by kind; send cells and the staging's at 0. -/
def lvS : SemLoc sig → ℕ
  | .reg _ => 1
  | .dma q => if 9 ≤ q.val ∧ q.val ≤ 12 then 2 else if 25 ≤ q.val ∧ q.val ≤ 36 then 3 else if 49 ≤ q.val ∧ q.val ≤ 60 then 4 else if 64 ≤ q.val then 5 else 0
def lv (g : GSem nD τ sig) (_ : Unit) : ℕ := lvS g.2
theorem lvS_recv (i : Snd) : lvS (.dma (recvS i)) = lvR i := by revert i; decide +kernel
theorem lvS_send (i : Snd) : lvS (.dma (sendS i)) = 0 := by revert i; decide +kernel
theorem lvR_pos (i : Snd) : 1 < lvR i := by revert i; decide

theorem L_of_ne (g : GSem nD τ sig) (h : g.1.2 ≠ .tc) : L g = ∅ := if_neg h
theorem L_tc (c : Dev nD) (sm : SemLoc sig) : L ((c : Thread nD τ), sm) = {()} := if_pos rfl

/-- What device `c` owes with the transfers of `l` still to start: each target's receive cell a slot's credit. -/
def owedL (c : Dev nD) : List Snd → CellTallies nD τ sig Unit
  | [] => 0
  | i :: l => owedL c l + tallyAt (recvCell i (tgt i c)) () N
/-- and with the barrier signals of the directions `D` still to give. -/
def owedB (c : Dev nD) (l : List Snd) : List (Fin 6) → CellTallies nD τ sig Unit
  | [] => owedL c l
  | d :: D => owedB c l D + tallyAt (barCell (bt d c)) () 1

theorem tallyAt_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem owedL_pos {c : Dev nD} {l : List Snd} {g : GSem nD τ sig} {u : Unit} (h : 0 < owedL c l g u) : ∃ i ∈ l, g = recvCell i (tgt i c) := by
  induction l with
  | nil => exact absurd h (Nat.lt_irrefl 0)
  | cons i l ih =>
    rw [owedL, Pi.add_apply, Finsupp.add_apply] at h
    rcases Nat.eq_zero_or_pos (owedL c l g u) with h0 | h0
    · rw [h0, Nat.zero_add] at h
      exact ⟨i, List.mem_cons_self, tallyAt_pos h⟩
    · obtain ⟨j, hj, e⟩ := ih h0; exact ⟨j, List.mem_cons_of_mem _ hj, e⟩
theorem owedB_pos {c : Dev nD} {l : List Snd} {D : List (Fin 6)} {g : GSem nD τ sig} {u : Unit} (h : 0 < owedB c l D g u) :
    (∃ i ∈ l, g = recvCell i (tgt i c)) ∨ ∃ d, g = barCell (bt d c) := by
  induction D with
  | nil => exact .inl (owedL_pos h)
  | cons d D ih =>
    rw [owedB, Pi.add_apply, Finsupp.add_apply] at h
    rcases Nat.eq_zero_or_pos (owedB c l D g u) with h0 | h0
    · rw [h0, Nat.zero_add] at h
      exact .inr ⟨d, tallyAt_pos h⟩
    · exact ih h0

/-- A wait below everything the device owes. -/
theorem mayWait_of (c : Dev nD) (sm : SemLoc sig) (l : List Snd) (h : ∀ i ∈ l, lvS sm < lvR i) :
    (levAts L lv : sProp 𝕄) ⊢ MayWait (c : Thread nD τ) sm () (owedL c l) :=
  MayOwe.of_cut (L := L) (lev := lv) (lvS sm) (fun p hp => by rw [Finset.mem_singleton.mp hp, L_tc]; exact Finset.mem_singleton_self _)
    (fun g u hg => by obtain ⟨i, hi, rfl⟩ := owedL_pos hg; rw [L_tc]; exact Finset.mem_singleton_self _)
    (fun p hp => by rw [Finset.mem_singleton.mp hp]; exact le_rfl)
    (fun g u hg => by obtain ⟨i, hi, rfl⟩ := owedL_pos hg; show lvS sm < lvS (.dma (recvS i)); rw [lvS_recv]; exact h i hi)
/-- The staging's waits, before the body. -/
theorem mayWait_stage (c : Dev nD) (q : DmaSem sig) (hq : lvS (.dma q) = 0) (l : List Snd) (D : List (Fin 6)) :
    (levAts L lv : sProp 𝕄) ⊢ MayWait (c : Thread nD τ) (.dma q) () (owedB c l D) :=
  MayOwe.of_cut (L := L) (lev := lv) 0 (fun p hp => by rw [Finset.mem_singleton.mp hp, L_tc]; exact Finset.mem_singleton_self _)
    (fun g u hg => by rcases owedB_pos hg with ⟨i, hi, rfl⟩ | ⟨d, rfl⟩ <;> exact Finset.mem_singleton_self _)
    (fun p hp => by rw [Finset.mem_singleton.mp hp]; exact hq.le)
    (fun g u hg => by
      rcases owedB_pos hg with ⟨i, hi, rfl⟩ | ⟨d, rfl⟩
      · show 0 < lvS (.dma (recvS i)); rw [lvS_recv]; exact lt_trans Nat.zero_lt_one (lvR_pos i)
      · exact Nat.one_pos)

end Cert.Mha

end
-- ==== Proof.State.lean ====
/-
A device's state between two steps of the body, by how many of its events have happened: which transfers fly, which
slots are filled, which shares of them are lent.
-/
module

public import proofs.«01_k».proof.Proof.Protocol

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Events, in program order -/

/-- What changes a device's state: a transfer started, its arrival or its end waited for, a slot of its own filled, a
    share or the row's sum kept, the result written. -/
inductive Ev
  | snd (i : Snd)
  | rcv (i : Snd)
  | wt (i : Snd)
  | st (s : Slot)
  | ps (o : Fin 4)
  | ac
  | out
  deriving DecidableEq

def evCol : List Ev := [.ps 0, .rcv (.col 2), .snd (.pl 1 0), .snd (.pl 1 1), .snd (.pl 1 2), .ps 1, .rcv (.col 1), .snd (.pl 2 0), .snd (.pl 2 1), .snd (.pl 2 2),
  .ps 2, .rcv (.col 0), .snd (.pl 3 0), .snd (.pl 3 1), .snd (.pl 3 2), .ps 3]
def evPart (j : Fin 3) (o : Fin 4) : List Ev := [.rcv (.pl o j.rev), .st (.pt o j), .snd (.rs o j)]
def evRow (k : Fin 3) : List Ev := [.rcv (.rs k.succ 0), .rcv (.rs k.succ 1), .rcv (.rs k.succ 2), .st (.zs k), .snd (.rz k)]
def evEnd : List Ev := [.rcv (.rs 0 0), .rcv (.rs 0 1), .rcv (.rs 0 2), .ac, .rcv (.rz 0), .rcv (.rz 1), .rcv (.rz 2), .out, .wt (.col 0), .wt (.col 1), .wt (.col 2)]
def evWait (o : Fin 4) : List Ev := [.wt (.pl o 0), .wt (.rs o 0), .wt (.pl o 1), .wt (.rs o 1), .wt (.pl o 2), .wt (.rs o 2)]
/-- All of them. -/
def evs : List Ev :=
  [.st (.xg 0 0), .snd (.col 0), .snd (.col 1), .snd (.col 2), .snd (.pl 0 0), .snd (.pl 0 1), .snd (.pl 0 2)] ++ evCol
    ++ ([0, 1, 2].flatMap fun j => [0, 1, 2, 3].flatMap fun o => evPart j o) ++ ([0, 1, 2].flatMap evRow) ++ evEnd ++ ([0, 1, 2, 3].flatMap evWait)
    ++ [.wt (.rz 0), .wt (.rz 1), .wt (.rz 2)]

theorem evs_length : evs.length = 112 := by decide +kernel
theorem evs_nodup : evs.Nodup := by decide +kernel

/-- An event's place in the order. -/
def tm (e : Ev) : ℕ := evs.idxOf e
/-- The event is among the first `n`. -/
def bef (n : ℕ) (e : Ev) : Bool := decide (tm e < n)

/-- Event `e` is the `n`-th. -/
def At (n : ℕ) (e : Ev) : Prop := tm e = n ∧ n < 112
instance (n : ℕ) (e : Ev) : Decidable (At n e) := inferInstanceAs (Decidable (_ ∧ _))

theorem bef_self {n : ℕ} {e : Ev} (h : At n e) : bef n e = false := by unfold bef; rw [h.1]; exact decide_eq_false (lt_irrefl n)
theorem bef_succ {n : ℕ} {e : Ev} (h : At n e) : bef (n + 1) e = true := by unfold bef; rw [h.1]; exact decide_eq_true (Nat.lt_succ_self n)
theorem bef_other {n : ℕ} {e e' : Ev} (h : At n e) (hne : e' ≠ e) : bef (n + 1) e' = bef n e' := by
  unfold bef; refine decide_eq_decide.mpr ⟨fun h' => ?_, fun h' => lt_trans h' (Nat.lt_succ_self n)⟩
  rcases lt_or_eq_of_le (Nat.lt_succ_iff.mp h') with h'' | h''
  · exact h''
  · refine absurd ?_ hne
    have l1 : evs.idxOf e < evs.length := by rw [evs_length]; exact lt_of_eq_of_lt h.1 h.2
    have l2 : evs.idxOf e' < evs.length := by rw [evs_length]; exact lt_of_eq_of_lt h'' h.2
    rw [← List.getElem_idxOf l1, ← List.getElem_idxOf l2]
    exact getElem_congr rfl (h''.trans h.1.symm) _

/-! ## Slots -/

/-- The transfer (of another device) that fills a slot, if one does. -/
def dstOf : Slot → Option Snd
  | .xg ⟨0, _⟩ ⟨0, _⟩ => none
  | .xg ⟨z + 1, hz⟩ ⟨0, _⟩ => some (.col (Fin.rev ⟨z, Nat.lt_of_succ_lt_succ hz⟩))
  | .xg z ⟨p + 1, hp⟩ => some (.pl z (Fin.rev ⟨p, Nat.lt_of_succ_lt_succ hp⟩))
  | .pt _ _ => none
  | .rp o j => some (.rs o j.rev)
  | .zs _ => none
  | .zr k => some (.rz k.rev)
theorem dstOf_ds : ∀ i : Snd, dstOf (ds i) = some i := by decide +kernel
theorem dstOf_eq : ∀ (s : Slot) (i : Snd), dstOf s = some i → s = ds i := by decide +kernel

/-- The transfer that reads a slot at a share's leaf, if one does. -/
def sndAt : Slot → Fin 8 → Option Snd
  | .xg z ⟨0, _⟩, L => if hL : L.val < 3 then (if z = 0 then some (.col ⟨L.val, hL⟩) else none)
      else if hL' : L.val < 6 then some (.pl z ⟨L.val - 3, by omega⟩) else none
  | .xg _ _, _ => none
  | .pt o j, L => if L = 0 then some (.rs o j) else none
  | .rp _ _, _ => none
  | .zs k, L => if L = 0 then some (.rz k) else none
  | .zr _, _ => none
theorem sndAt_ss : ∀ i : Snd, sndAt (ss i) (lf i) = some i := by decide +kernel
theorem sndAt_eq : ∀ (s : Slot) (L : Fin 8) (i : Snd), sndAt s L = some i → s = ss i ∧ L = lf i := by decide +kernel

def filled (n : ℕ) (s : Slot) : Bool := match dstOf s with | some i => bef n (.rcv i) | none => bef n (.st s)
def lentTo (n : ℕ) : Option Snd → Bool | some i => bef n (.snd i) && !bef n (.wt i) | none => false
def lent (n : ℕ) (s : Slot) (L : Fin 8) : Bool := lentTo n (sndAt s L)

/-- The transfers still to start. -/
def allSnd : List Snd :=
  [.col 0, .col 1, .col 2] ++ ([0, 1, 2, 3].flatMap fun o => [.pl o 0, .pl o 1, .pl o 2])
    ++ ([0, 1, 2].flatMap fun j => [.rs 0 j, .rs 1 j, .rs 2 j, .rs 3 j]) ++ [.rz 0, .rz 1, .rz 2]
def rest (n : ℕ) : List Snd := allSnd.filter fun i => !bef n (.snd i)

theorem rest_other {n : ℕ} {e : Ev} (h : At n e) (hne : ∀ i, e ≠ .snd i) : rest (n + 1) = rest n :=
  List.filter_congr fun i _ => by rw [bef_other h (fun h' => hne i h'.symm)]

/-! ## The state -/

/-- The four running shares, one row each of their buffer. -/
theorem psOff_inb (o : Fin 4) : ∀ a, (![o.val, 0, 0] : Fin 3 → ℕ) a + S1x256x1024.size a ≤ S4x256x1024.size a := by revert o; decide
abbrev psR (o : Fin 4) : Rect S4x256x1024 := Rect.unit (s := S4x256x1024) ![o.val, 0, 0] S1x256x1024.size (psOff_inb o)
abbrev psM (o : Fin 4) : Memref sig .tc .vmem S1x256x1024 .f32 := (Memref.whole cc0_scratch1).slice (psR o) (fun _ => rfl)

variable (I : Ins F) (K : Dev nD → Option (Snd ⊕ Snd) ⊕ Bool → ℕ)

/-- The cells of a device: its barrier, its transfers' send and receive cells, two semaphores not in use. -/
abbrev Cel : Type := Option (Snd ⊕ Snd) ⊕ Bool
def csem : Cel → SemLoc sig
  | .inl none => .reg barS
  | .inl (some (.inl i)) => .dma (sendS i)
  | .inl (some (.inr i)) => .dma (recvS i)
  | .inr false => .dma 9
  | .inr true => .dma 64
abbrev kcell (ck : Dev nD × Cel) : GSem nD τ sig := ((ck.1 : Thread nD τ), csem ck.2)

/-- Every cell's invariant, and that every cell has reached its round. -/
def records : sProp 𝕄 :=
  iprop((bigSep Finset.univ fun ck : Dev nD × Cel => cellInv ER (rd I) (K ck.1 ck.2) (kcell ck))
    ∗ bigSep Finset.univ fun ck : Dev nD × Cel => reached ER (kcell ck) 0)
instance records_persistent : BI.Persistent (records I K) := by unfold records; infer_instance
theorem inv_at (d : Dev nD) (k : Cel) : records I K ⊢ cellInv ER (rd I) (K d k) (kcell (d, k)) := by
  unfold records; exact sep_elim_left.trans (bigSep_elim (Finset.mem_univ (d, k)))
theorem reached_at (d : Dev nD) (k : Cel) : records I K ⊢ reached ER (kcell (d, k)) 0 := by
  unfold records; exact sep_elim_right.trans (bigSep_elim (Finset.mem_univ (d, k)))

variable (c : Dev nD)

def sndA (n : ℕ) (i : Snd) : sProp 𝕄 :=
  if bef n (.wt i) then atPos ER (sendCell i c) 1 ∅ 0
  else if bef n (.snd i) then iprop(cred (tallyAt (sendCell i c) () N) ∗ atPos ER (sendCell i c) 0 ∅ 0)
  else iprop(anyS (ds i) (tgt i c) ∗ dutyTok ER (sendCell i c) 0 0 ∗ dutyTok ER (recvCell i (tgt i c)) 0 0 ∗ atPos ER (sendCell i c) 0 ∅ 0)
def rcvA (n : ℕ) (i : Snd) : sProp 𝕄 :=
  if bef n (.rcv i) then atPos ER (recvCell i c) 1 ∅ 0
  else iprop(cred (tallyAt (recvCell i c) () N) ∗ atPos ER (recvCell i c) 0 ∅ 0)
def leafA (n : ℕ) (s : Slot) (L : Fin 8) : sProp 𝕄 := if lent n s L then iprop(emp) else leafS I L s c
def slotA (n : ℕ) (s : Slot) : sProp 𝕄 :=
  if filled n s then bigSep Finset.univ (leafA I c n s) else if (dstOf s).isSome then iprop(emp) else anyS s c
def psAt (o : Fin 4) (X : FVec F S1x256x1024 .f32) : sProp 𝕄 := owns (c : Thread nD τ) (psM o) fullShare X
def psA (n : ℕ) (o : Fin 4) : sProp 𝕄 :=
  if o = 0 ∧ bef n .ac = true then psAt c o (accV I c) else if bef n (.ps o) then psAt c o (psV I c (sh o.val 0 c)) else iprop(∃ X, psAt c o X)
abbrev bufAt (b : Ref sig .tc) (X : b.ty.Contents (Elt F)) : sProp 𝕄 := ((c : Thread nD τ).loc b) ↦{fullShare} X
def outA (n : ℕ) : sProp 𝕄 := if bef n .out then bufAt c cc0_stg5_0 (outV I c) else iprop(∃ X, bufAt c cc0_stg5_0 X)
def owesA (n : ℕ) : sProp 𝕄 := iprop(∃ W, owes (c : Thread nD τ) (owedL c (rest n)) W)
/-- The staged inputs. -/
def insA : sProp 𝕄 :=
  iprop(bufAt c cc0_stg0_0 (I.x c) ∗ bufAt c cc0_stg1_0 (I.q c) ∗ bufAt c cc0_stg2_0 (I.k c) ∗ bufAt c cc0_stg3_0 (I.v c) ∗ bufAt c cc0_stg4_0 (I.o c))
/-- What no step after the handshake touches: the positions of the barrier's cell and of the two unused ones. -/
def offA : sProp 𝕄 := iprop(atPos ER (barCell c) 1 ∅ 0 ∗ bigSep Finset.univ fun b : Bool => atPos ER (kcell (c, .inr b)) 0 ∅ 0)

/-- The persistent facts. -/
def facts : sProp 𝕄 := iprop(records I K ∗ levAts L lv)
instance facts_persistent : BI.Persistent (facts I K) := by unfold facts; infer_instance

/-- Device `c`'s state after `n` events. -/
def AA (n : ℕ) : sProp 𝕄 :=
  iprop(facts I K ∗ owesA c n ∗ bigSep Finset.univ (sndA c n) ∗ bigSep Finset.univ (rcvA c n) ∗ bigSep Finset.univ (slotA I c n)
    ∗ bigSep Finset.univ (psA I c n) ∗ outA I c n ∗ insA I c ∗ offA c)

/-! ## How an event changes it -/

/-- A family changed at one member. -/
theorem fam_upd {ι : Type} [Fintype ι] [DecidableEq ι] {Φ Ψ : ι → sProp 𝕄} (i : ι) (h : ∀ j, j ≠ i → Ψ j = Φ j) :
    bigSep Finset.univ Ψ = iprop(Ψ i ∗ bigSep (Finset.univ.erase i) Φ) := by
  rw [BI.bigSep_univ_split i, bigSep_congr (fun j hj => h j (Finset.ne_of_mem_erase hj))]; rfl
theorem fam_at {ι : Type} [Fintype ι] [DecidableEq ι] (Φ : ι → sProp 𝕄) (i : ι) :
    bigSep Finset.univ Φ = iprop(Φ i ∗ bigSep (Finset.univ.erase i) Φ) := BI.bigSep_univ_split i

section Change
variable {n : ℕ} {e : Ev} (he : At n e)
include he

theorem sndA_other (i : Snd) (h1 : e ≠ .snd i) (h2 : e ≠ .wt i) : sndA (F := F) c (n + 1) i = sndA c n i := by
  unfold sndA; rw [bef_other he h1.symm, bef_other he h2.symm]
theorem rcvA_other (i : Snd) (h : e ≠ .rcv i) : rcvA (F := F) c (n + 1) i = rcvA c n i := by
  unfold rcvA; rw [bef_other he h.symm]
theorem lent_other (s : Slot) (L : Fin 8) (h : ∀ i, sndAt s L = some i → e ≠ .snd i ∧ e ≠ .wt i) : lent (n + 1) s L = lent n s L := by
  unfold lent
  cases hs : sndAt s L with
  | none => rfl
  | some i => show (bef (n + 1) (.snd i) && !bef (n + 1) (.wt i)) = (bef n (.snd i) && !bef n (.wt i)); rw [bef_other he (h i hs).1.symm, bef_other he (h i hs).2.symm]
theorem filled_other (s : Slot) (h1 : ∀ i, dstOf s = some i → e ≠ .rcv i) (h2 : e ≠ .st s) : filled (n + 1) s = filled n s := by
  unfold filled
  cases hs : dstOf s with
  | none => exact bef_other he h2.symm
  | some i => exact bef_other he (h1 i hs).symm
theorem leafA_other (s : Slot) (L : Fin 8) (h : ∀ i, sndAt s L = some i → e ≠ .snd i ∧ e ≠ .wt i) : leafA I c (n + 1) s L = leafA I c n s L := by
  unfold leafA; rw [lent_other he s L h]
theorem slotA_other (s : Slot) (h1 : ∀ i, dstOf s = some i → e ≠ .rcv i) (h2 : e ≠ .st s) (h3 : ∀ L i, sndAt s L = some i → e ≠ .snd i ∧ e ≠ .wt i) :
    slotA I c (n + 1) s = slotA I c n s := by
  unfold slotA
  rw [filled_other he s h1 h2, bigSep_congr (fun L _ => leafA_other I c he s L (h3 L))]
theorem psA_other (o : Fin 4) (h1 : e ≠ .ps o) (h2 : o = 0 → e ≠ .ac) : psA I c (n + 1) o = psA I c n o := by
  unfold psA
  by_cases ho : o = 0
  · rw [bef_other he h1.symm, bef_other he (h2 ho).symm]
  · rw [bef_other he h1.symm, if_neg (fun h => ho (And.left h)), if_neg (fun h => ho (And.left h))]
theorem outA_other (h : e ≠ .out) : outA I c (n + 1) = outA I c n := by unfold outA; rw [bef_other he h.symm]
theorem owesA_other (h : ∀ i, e ≠ .snd i) : owesA (F := F) c (n + 1) = owesA c n := by unfold owesA; rw [rest_other he h]

end Change

end Cert.Mha

end
-- ==== Proof.Whole.lean ====
/-
The scratch buffers as the slots they are cut into, and a slot's shares as the slot.
-/
module

public import proofs.«01_k».proof.Proof.State
public import Idealize.ShloMosaic.Lib.MemrefSat

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem eq_of {P Q : sProp 𝕄} (h1 : P ⊢ Q) (h2 : Q ⊢ P) : P = Q := equiv_iff.mp ⟨h1, h2⟩

/-! ## A buffer and its parts -/

section Parts
variable {ℓ : Loc nD τ sig} {ι : Type} [Fintype ι] [DecidableEq ι] (K : ι → Finset (Idx ℓ))
  (hd : ∀ i j j', i ∈ K j → i ∈ K j' → j = j') (hc : ∀ i, ∃ j, i ∈ K j)
include hd hc

theorem cover_eq : (Finset.univ : Finset (Idx ℓ)) = Finset.univ.biUnion K := by
  ext i; obtain ⟨j, hj⟩ := hc i
  exact ⟨fun _ => Finset.mem_biUnion.mpr ⟨j, Finset.mem_univ j, hj⟩, fun _ => Finset.mem_univ i⟩
theorem parts_disj : ∀ j ∈ (Finset.univ : Finset ι), ∀ j' ∈ (Finset.univ : Finset ι), j ≠ j' → Disjoint (K j) (K j') :=
  fun j _ j' _ h => Finset.disjoint_left.mpr fun i h1 h2 => h (hd i j j' h1 h2)

/-- A buffer at some contents is each part at some contents. -/
theorem parts_iff [Nonempty ι] : (iprop(∃ f : Buf (Elt F) ℓ, ℓ ↦{fullShare} f) : sProp 𝕄) = bigSep Finset.univ fun j => iprop(∃ f : Buf (Elt F) ℓ, ℓ ↦[K j]{fullShare} f) := by
  have hU := cover_eq K hd hc
  refine eq_of ?_ ?_
  · iintro ⟨%f, H⟩
    ihave H' := (Entails.of_eq ((congrArg (fun S => (ℓ ↦[S]{fullShare} f : sProp 𝕄)) hU).trans (pointsTo_biUnion (ℓ := ℓ) (f := f) (q := fullShare) Finset.univ K (parts_disj K hd hc)))) $$ H
    have hm : (bigSep Finset.univ fun j => (ℓ ↦[K j]{fullShare} f : sProp 𝕄)) ⊢ bigSep Finset.univ fun j => iprop(∃ f : Buf (Elt F) ℓ, ℓ ↦[K j]{fullShare} f) :=
      bigSep_mono fun j _ => show (ℓ ↦[K j]{fullShare} f : sProp 𝕄) ⊢ iprop(∃ f : Buf (Elt F) ℓ, ℓ ↦[K j]{fullShare} f) by iintro H; iexists f; iexact H
    iapply hm
    iexact H'
  · refine (BI.bigSep_exists_pi Finset.univ fun (j : ι) (f : Buf (Elt F) ℓ) => (ℓ ↦[K j]{fullShare} f : sProp 𝕄)).trans ?_
    iintro ⟨%fs, H⟩
    ihave H' := (pointsTo_biUnion_join (ℓ := ℓ) (q := fullShare) Finset.univ K fs (fs (Classical.arbitrary ι)) (parts_disj K hd hc)) $$ H
    icases H' with ⟨%g, -, H'⟩
    iexists g
    rw [hU]
    iexact H'

/-- The same, each part named. -/
theorem parts_named [Nonempty ι] (A : ι → sProp 𝕄) (hA : ∀ j, A j = iprop(∃ f : Buf (Elt F) ℓ, ℓ ↦[K j]{fullShare} f)) :
    (iprop(∃ f : Buf (Elt F) ℓ, ℓ ↦{fullShare} f) : sProp 𝕄) = bigSep Finset.univ A := by
  rw [parts_iff K hd hc, bigSep_congr fun j _ => (hA j).symm]

end Parts

variable (I : Ins F) (c : Dev nD)

/-- A memref at some contents is its elements at some contents. -/
theorem some_pts {s : Shape} {e : EltTy} (M : Memref sig .tc .vmem s e) :
    (iprop(∃ X, owns (c : Thread nD τ) M fullShare X) : sProp 𝕄) = iprop(∃ f : Buf (Elt F) (M.view.loc (c : Thread nD τ)), M.view.loc (c : Thread nD τ) ↦[M.view.set]{fullShare} f) := by
  have h1 : (iprop(∃ X, owns (c : Thread nD τ) M fullShare X) : sProp 𝕄) ⊢ iprop(∃ f : Buf (Elt F) (M.view.loc (c : Thread nD τ)), M.view.loc (c : Thread nD τ) ↦[M.view.set]{fullShare} f) := by
    unfold owns
    iintro ⟨%X, H⟩
    icases H with ⟨%f, -, H⟩
    iexists f; iexact H
  have h2 : (iprop(∃ f : Buf (Elt F) (M.view.loc (c : Thread nD τ)), M.view.loc (c : Thread nD τ) ↦[M.view.set]{fullShare} f) : sProp 𝕄) ⊢ iprop(∃ X, owns (c : Thread nD τ) M fullShare X) := by
    unfold owns
    iintro ⟨%f, H⟩
    iexists (M.view.read (Elt F) f); iexists f
    isplitr
    · ipureintro; rfl
    · iexact H
  exact eq_of h1 h2

/-! ## Which elements a slot has -/

theorem xg_set (z p : Fin 4) (i : S16x256x1024.Idx) : i ∈ (sM (.xg z p) c).view.set ↔ (i 0).val = (sh z.val p.val c).val := by
  have e : (sM (.xg z p) c).view.set = (Rect.unit (s := S16x256x1024) (xgOff z p c) S1x256x1024.size (xgOff_inb z p c)).set :=
    (View.set_reshape _ _).trans (View.set_slice_whole cc0_scratch0 _)
  refine (iff_of_eq (congrArg (fun S : Finset S16x256x1024.Idx => i ∈ S) e)).trans (Rect.mem_set_unit.trans ?_)
  constructor
  · intro h
    have h0 : (sh z.val p.val c).val ≤ (i 0).val ∧ (i 0).val < (sh z.val p.val c).val + 1 := h 0
    omega
  · intro h a
    have h1 : (i 1).val < 256 := (i 1).isLt
    have h2 : (i 2).val < 1024 := (i 2).isLt
    fin_cases a
    · show (sh z.val p.val c).val ≤ (i 0).val ∧ (i 0).val < (sh z.val p.val c).val + 1; omega
    · show 0 ≤ (i 1).val ∧ (i 1).val < 0 + 256; omega
    · show 0 ≤ (i 2).val ∧ (i 2).val < 0 + 1024; omega

theorem pair_set (o : Fin 4) (j : Fin 3) (i : S4x3x256x1024.Idx) :
    i ∈ (Rect.unit (s := S4x3x256x1024) ![o.val, j.val, 0, 0] S1x1x256x1024.size (pairOff_inb o j)).set ↔ (i 0).val = o.val ∧ (i 1).val = j.val := by
  rw [Rect.mem_set_unit]
  constructor
  · intro h
    have h0 : o.val ≤ (i 0).val ∧ (i 0).val < o.val + 1 := h 0
    have h1 : j.val ≤ (i 1).val ∧ (i 1).val < j.val + 1 := h 1
    omega
  · rintro ⟨h0, h1⟩ a
    have h2 : (i 2).val < 256 := (i 2).isLt
    have h3 : (i 3).val < 1024 := (i 3).isLt
    fin_cases a
    · show o.val ≤ (i 0).val ∧ (i 0).val < o.val + 1; omega
    · show j.val ≤ (i 1).val ∧ (i 1).val < j.val + 1; omega
    · show 0 ≤ (i 2).val ∧ (i 2).val < 0 + 256; omega
    · show 0 ≤ (i 3).val ∧ (i 3).val < 0 + 1024; omega

theorem one_set (k : Fin 3) (i : S3x256x1024.Idx) :
    i ∈ (Rect.unit (s := S3x256x1024) ![k.val, 0, 0] S1x256x1024.size (oneOff_inb k)).set ↔ (i 0).val = k.val := by
  rw [Rect.mem_set_unit]
  constructor
  · intro h
    have h0 : k.val ≤ (i 0).val ∧ (i 0).val < k.val + 1 := h 0
    omega
  · intro h a
    have h2 : (i 1).val < 256 := (i 1).isLt
    have h3 : (i 2).val < 1024 := (i 2).isLt
    fin_cases a
    · show k.val ≤ (i 0).val ∧ (i 0).val < k.val + 1; omega
    · show 0 ≤ (i 1).val ∧ (i 1).val < 0 + 256; omega
    · show 0 ≤ (i 2).val ∧ (i 2).val < 0 + 1024; omega

theorem row_set (o : Fin 4) (i : S4x256x1024.Idx) : i ∈ (psM o).view.set ↔ (i 0).val = o.val := by
  have e : (psM o).view.set = (psR o).set := View.set_slice_whole cc0_scratch1 _
  refine (iff_of_eq (congrArg (fun S : Finset S4x256x1024.Idx => i ∈ S) e)).trans (Rect.mem_set_unit.trans ?_)
  constructor
  · intro h
    have h0 : o.val ≤ (i 0).val ∧ (i 0).val < o.val + 1 := h 0
    omega
  · intro h a
    have h2 : (i 1).val < 256 := (i 1).isLt
    have h3 : (i 2).val < 1024 := (i 2).isLt
    fin_cases a
    · show o.val ≤ (i 0).val ∧ (i 0).val < o.val + 1; omega
    · show 0 ≤ (i 1).val ∧ (i 1).val < 0 + 256; omega
    · show 0 ≤ (i 2).val ∧ (i 2).val < 0 + 1024; omega

/-! ## The buffers -/

abbrev someBuf (b : Ref sig .tc) : sProp 𝕄 := iprop(∃ f : Buf (Elt F) ((c : Thread nD τ).loc b), ((c : Thread nD τ).loc b) ↦{fullShare} f)

theorem sh_distinct : ∀ (c : Dev nD) (a b : Fin 4 × Fin 4), (sh a.1.val a.2.val c).val = (sh b.1.val b.2.val c).val → a = b := by decide +kernel
theorem sh_cover : ∀ (c : Dev nD) (n : Fin 16), ∃ a : Fin 4 × Fin 4, n.val = (sh a.1.val a.2.val c).val := by decide +kernel

theorem buf_xg : someBuf (F := F) c cc0_scratch0 = bigSep Finset.univ fun a : Fin 4 × Fin 4 => anyS (.xg a.1 a.2) c :=
  parts_named (ℓ := (c : Thread nD τ).loc cc0_scratch0) (fun a : Fin 4 × Fin 4 => (sM (.xg a.1 a.2) c).view.set)
    (fun i a b h1 h2 => sh_distinct c a b (((xg_set c a.1 a.2 i).mp h1).symm.trans ((xg_set c b.1 b.2 i).mp h2)))
    (fun i => by obtain ⟨a, ha⟩ := sh_cover c (i 0); exact ⟨a, (xg_set c a.1 a.2 i).mpr ha⟩) _
    (fun a => some_pts c (sM (.xg a.1 a.2) c))
theorem pt_set (o : Fin 4) (j : Fin 3) (i : S4x3x256x1024.Idx) : i ∈ (sM (.pt o j) c).view.set ↔ (i 0).val = o.val ∧ (i 1).val = j.val :=
  have e : (sM (.pt o j) c).view.set = (Rect.unit (s := S4x3x256x1024) ![o.val, j.val, 0, 0] S1x1x256x1024.size (pairOff_inb o j)).set :=
    (View.set_reshape _ _).trans (View.set_slice_whole cc0_scratch2 _)
  (iff_of_eq (congrArg (fun S : Finset S4x3x256x1024.Idx => i ∈ S) e)).trans (pair_set o j i)
theorem buf_pt : someBuf (F := F) c cc0_scratch2 = bigSep Finset.univ fun a : Fin 4 × Fin 3 => anyS (.pt a.1 a.2) c :=
  parts_named (ℓ := (c : Thread nD τ).loc cc0_scratch2) (fun a : Fin 4 × Fin 3 => (sM (.pt a.1 a.2) c).view.set)
    (fun i a b h1 h2 => by
      have h1' := (pt_set c a.1 a.2 i).mp h1; have h2' := (pt_set c b.1 b.2 i).mp h2
      exact Prod.ext (Fin.ext (h1'.1.symm.trans h2'.1)) (Fin.ext (h1'.2.symm.trans h2'.2)))
    (fun i => ⟨((i 0 : Fin 4), (i 1 : Fin 3)), (pt_set c (i 0) (i 1) i).mpr ⟨rfl, rfl⟩⟩) _
    (fun a => some_pts c (sM (.pt a.1 a.2) c))
theorem rp_set (o : Fin 4) (j : Fin 3) (i : S4x3x256x1024.Idx) : i ∈ (sM (.rp o j) c).view.set ↔ (i 0).val = o.val ∧ (i 1).val = j.val :=
  have e : (sM (.rp o j) c).view.set = (Rect.unit (s := S4x3x256x1024) ![o.val, j.val, 0, 0] S1x1x256x1024.size (pairOff_inb o j)).set :=
    (View.set_reshape _ _).trans (View.set_slice_whole cc0_scratch3 _)
  (iff_of_eq (congrArg (fun S : Finset S4x3x256x1024.Idx => i ∈ S) e)).trans (pair_set o j i)
theorem buf_rp : someBuf (F := F) c cc0_scratch3 = bigSep Finset.univ fun a : Fin 4 × Fin 3 => anyS (.rp a.1 a.2) c :=
  parts_named (ℓ := (c : Thread nD τ).loc cc0_scratch3) (fun a : Fin 4 × Fin 3 => (sM (.rp a.1 a.2) c).view.set)
    (fun i a b h1 h2 => by
      have h1' := (rp_set c a.1 a.2 i).mp h1; have h2' := (rp_set c b.1 b.2 i).mp h2
      exact Prod.ext (Fin.ext (h1'.1.symm.trans h2'.1)) (Fin.ext (h1'.2.symm.trans h2'.2)))
    (fun i => ⟨((i 0 : Fin 4), (i 1 : Fin 3)), (rp_set c (i 0) (i 1) i).mpr ⟨rfl, rfl⟩⟩) _
    (fun a => some_pts c (sM (.rp a.1 a.2) c))
theorem zs_set (k : Fin 3) (i : S3x256x1024.Idx) : i ∈ (sM (.zs k) c).view.set ↔ (i 0).val = k.val :=
  have e : (sM (.zs k) c).view.set = (Rect.unit (s := S3x256x1024) ![k.val, 0, 0] S1x256x1024.size (oneOff_inb k)).set :=
    (View.set_reshape _ _).trans (View.set_slice_whole cc0_scratch4 _)
  (iff_of_eq (congrArg (fun S : Finset S3x256x1024.Idx => i ∈ S) e)).trans (one_set k i)
theorem buf_zs : someBuf (F := F) c cc0_scratch4 = bigSep Finset.univ fun k : Fin 3 => anyS (.zs k) c :=
  parts_named (ℓ := (c : Thread nD τ).loc cc0_scratch4) (fun k : Fin 3 => (sM (.zs k) c).view.set)
    (fun i a b h1 h2 => Fin.ext (((zs_set c a i).mp h1).symm.trans ((zs_set c b i).mp h2)))
    (fun i => ⟨(i 0 : Fin 3), (zs_set c (i 0) i).mpr rfl⟩) _ (fun k => some_pts c (sM (.zs k) c))
theorem zr_set (k : Fin 3) (i : S3x256x1024.Idx) : i ∈ (sM (.zr k) c).view.set ↔ (i 0).val = k.val :=
  have e : (sM (.zr k) c).view.set = (Rect.unit (s := S3x256x1024) ![k.val, 0, 0] S1x256x1024.size (oneOff_inb k)).set :=
    (View.set_reshape _ _).trans (View.set_slice_whole cc0_scratch5 _)
  (iff_of_eq (congrArg (fun S : Finset S3x256x1024.Idx => i ∈ S) e)).trans (one_set k i)
theorem buf_zr : someBuf (F := F) c cc0_scratch5 = bigSep Finset.univ fun k : Fin 3 => anyS (.zr k) c :=
  parts_named (ℓ := (c : Thread nD τ).loc cc0_scratch5) (fun k : Fin 3 => (sM (.zr k) c).view.set)
    (fun i a b h1 h2 => Fin.ext (((zr_set c a i).mp h1).symm.trans ((zr_set c b i).mp h2)))
    (fun i => ⟨(i 0 : Fin 3), (zr_set c (i 0) i).mpr rfl⟩) _ (fun k => some_pts c (sM (.zr k) c))
theorem buf_ps : someBuf (F := F) c cc0_scratch1 = bigSep Finset.univ fun o : Fin 4 => iprop(∃ X, psAt c o X) :=
  parts_named (ℓ := (c : Thread nD τ).loc cc0_scratch1) (fun o : Fin 4 => (psM o).view.set)
    (fun i a b h1 h2 => Fin.ext (((row_set a i).mp h1).symm.trans ((row_set b i).mp h2)))
    (fun i => ⟨i 0, (row_set (i 0) i).mpr rfl⟩) _ (fun o => some_pts c (psM o))

/-- The slots, buffer by buffer. -/
def slotE : ((Fin 4 × Fin 4) ⊕ (Fin 4 × Fin 3) ⊕ (Fin 4 × Fin 3) ⊕ Fin 3 ⊕ Fin 3) ≃ Slot where
  toFun | .inl a => .xg a.1 a.2 | .inr (.inl a) => .pt a.1 a.2 | .inr (.inr (.inl a)) => .rp a.1 a.2 | .inr (.inr (.inr (.inl k))) => .zs k | .inr (.inr (.inr (.inr k))) => .zr k
  invFun | .xg z p => .inl (z, p) | .pt o j => .inr (.inl (o, j)) | .rp o j => .inr (.inr (.inl (o, j))) | .zs k => .inr (.inr (.inr (.inl k))) | .zr k => .inr (.inr (.inr (.inr k)))
  left_inv a := by rcases a with a | a | a | a | a <;> rfl
  right_inv s := by cases s <;> rfl
theorem slots_eq (Φ : Slot → sProp 𝕄) : bigSep Finset.univ Φ = iprop((bigSep Finset.univ fun a : Fin 4 × Fin 4 => Φ (.xg a.1 a.2)) ∗ (bigSep Finset.univ fun a : Fin 4 × Fin 3 => Φ (.pt a.1 a.2))
      ∗ (bigSep Finset.univ fun a : Fin 4 × Fin 3 => Φ (.rp a.1 a.2)) ∗ (bigSep Finset.univ fun k : Fin 3 => Φ (.zs k)) ∗ bigSep Finset.univ fun k : Fin 3 => Φ (.zr k)) := by
  rw [bigSep_univ_equiv slotE Φ, bigSep_univ_sum, bigSep_univ_sum, bigSep_univ_sum, bigSep_univ_sum]; rfl

/-- The scratch buffers are the slots and the rows of the running shares. -/
def scratchA : sProp 𝕄 := iprop((bigSep Finset.univ fun s => anyS s c) ∗ bigSep Finset.univ fun o : Fin 4 => iprop(∃ X, psAt c o X))
theorem scratch_eq : (Pipeline.scopedRest cfg0.spec c : sProp 𝕄) = scratchA c := by
  unfold scratchA
  rw [slots_eq, ← buf_xg, ← buf_pt, ← buf_rp, ← buf_zs, ← buf_zr, ← buf_ps]
  refine (scopedRest0_eq (Ix := Unit) (Name := ℕ) (U := UU) (Lvl := ℕ) (Val := Elt F) c).trans (eq_of ?_ ?_)
  · iintro ⟨H0, H1, H2, H3, H4, H5⟩
    isplitr [H1]
    · isplitl [H0]; · iexact H0
      isplitl [H2]; · iexact H2
      isplitl [H3]; · iexact H3
      isplitl [H4]; · iexact H4
      iexact H5
    · iexact H1
  · iintro ⟨⟨H0, H2, H3, H4, H5⟩, H1⟩
    isplitl [H0]; · iexact H0
    isplitl [H1]; · iexact H1
    isplitl [H2]; · iexact H2
    isplitl [H3]; · iexact H3
    isplitl [H4]; · iexact H4
    iexact H5

/-! ## A slot's shares -/

/-- The shares of all a share's leaves are the share. -/
theorem leaves_join {s : Shape} {e : EltTy} (M : Memref sig .tc .vmem s e) (X : s.Idx → Elt F e) : ∀ (n : ℕ) (q : PosShare TreeShare),
    (bigSep Finset.univ fun L : Fin (2 ^ n) => (owns (c : Thread nD τ) M (ShareLeaves.leaf n q L) X : sProp 𝕄)) ⊢ owns (c : Thread nD τ) M q X
  | 0, q => by
    exact bigSep_elim (Φ := fun L : Fin (2 ^ 0) => (owns (c : Thread nD τ) M (ShareLeaves.leaf 0 q L) X : sProp 𝕄)) (Finset.mem_univ (0 : Fin (2 ^ 0)))
  | n + 1, q => by
    rw [bigSep_univ_equiv (ShareLeaves.sumEquiv n), bigSep_univ_sum]
    refine (BI.sep_mono ?_ ?_).trans (owns_halves (c : Thread nD τ) M q X).2
    · refine BI.Entails.trans (Entails.of_eq (bigSep_congr fun L _ => ?_)) (leaves_join M X n q.left)
      exact congrArg (fun r => (owns (c : Thread nD τ) M r X : sProp 𝕄)) (ShareLeaves.leaf_inl n q L)
    · refine BI.Entails.trans (Entails.of_eq (bigSep_congr fun L _ => ?_)) (leaves_join M X n q.right)
      exact congrArg (fun r => (owns (c : Thread nD τ) M r X : sProp 𝕄)) (ShareLeaves.leaf_inr n q L)

theorem leaves_any (s : Slot) : (bigSep Finset.univ fun L : Fin 8 => leafS I L s c) ⊢ anyS (F := F) s c := by
  refine (leaves_join c (sM s c) (sX I s c) 3 fullShare).trans ?_
  unfold anyS
  iintro H; iexists (sX I s c); iexact H

end Cert.Mha

end
-- ==== Proof.Steps.lean ====
/-
The body's steps, one rule per kind of effect, each from the state after `n` events.
-/
module

public import proofs.«01_k».proof.Proof.State

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (I : Ins F) (K : Dev nD → Cel → ℕ) (c : Dev nD)

/-- What a program run on device `c` needs for `Q`. -/
abbrev Wp {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α β : Type} {Q : α → sProp (MT nD τ sig Unit (Elt F) ℕ UU ℕ)}

/-- A part of the program, then the rest. -/
theorem wp_then {P : sProp 𝕄} {p : Prog (TpuEff nD τ sig (Elt F) Λ₀ .tc) β} {k : β → Prog (TpuEff nD τ sig (Elt F) Λ₀ .tc) α}
    (h : P ⊢ Wp c p fun x => Wp c (k x) Q) : P ⊢ Wp c (p >>= k) Q := by
  unfold Wp; rw [wp_bind]; exact h
/-- The end of a part whose results nothing depends on. -/
theorem wp_end {P : sProp 𝕄} {a : α} (h : ∀ x, P ⊢ Q x) : P ⊢ Wp c (pure a) Q := by
  unfold Wp; rw [Prog.pure_eq_ret, wp_ret]; exact (h a).trans fupd_intro
/-- The end of a part. -/
theorem wp_end_at {P : sProp 𝕄} {a : α} (h : P ⊢ Q a) : P ⊢ Wp c (pure a) Q := by
  unfold Wp; rw [Prog.pure_eq_ret, wp_ret]; exact h.trans fupd_intro

section Send

/-- A transfer started. -/
theorem step_send (n : ℕ) (i : Snd) {src dst : Memref sig .tc .vmem S256x1024 .bf16} {d : Dev nD} {sS rS : DmaSem sig}
    {hsc : dst.view.ref.isScScratch = false} {hw : src.view.WordExact} {hw' : dst.view.WordExact}
    {ht : DmaTarget.Typed .vmem (.dma rS) (.remote (Dev.tc d : Thread nD τ) dst (.dma sS) hsc)}
    {k : PUnit → Prog (TpuEff nD τ sig (Elt F) Λ₀ .tc) α}
    (hsrc : sM (ss i) c = src) (hdst : sM (ds i) (tgt i c) = dst) (hd : d = tgt i c) (hsS : sS = sendS i) (hrS : rS = recvS i)
    (hc : At n (.snd i) ∧ rest n = i :: rest (n + 1) ∧ bef n (.wt i) = false ∧ filled n (ss i) = true)
    (h : AA I K c (n + 1) ⊢ Wp c (k ⟨⟩) Q) :
    AA I K c n ⊢ Wp c (Prog.lift (.enqueueDma src (.remote (Dev.tc d : Thread nD τ) dst (.dma sS) hsc) (.dma rS) hw hw' ht) >>= k) Q := by
  subst hsrc hdst hd hsS hrS
  obtain ⟨he, hrest, hwt, hfill⟩ := hc
  have hS := fam_upd (Φ := sndA (F := F) c n) (Ψ := sndA c (n + 1)) i fun j hj => sndA_other c he j (fun h => hj (Ev.snd.inj h).symm) (fun h => by cases h)
  have hR := bigSep_congr (s := Finset.univ) fun j _ => rcvA_other (F := F) c he j (fun h => by cases h)
  have hleaf := fam_upd (Φ := leafA I c n (ss i)) (Ψ := leafA I c (n + 1) (ss i)) (lf i) fun L hL => leafA_other I c he (ss i) L fun i' hi' =>
    ⟨fun h => hL (by cases h; exact (sndAt_eq _ _ _ hi').2), fun h => by cases h⟩
  have hM := fam_upd (Φ := slotA I c n) (Ψ := slotA I c (n + 1)) (ss i) fun s hs => slotA_other I c he s (fun _ _ h => by cases h) (fun h => by cases h)
    fun L i' hi' => ⟨fun h => hs (by cases h; exact (sndAt_eq _ _ _ hi').1), fun h => by cases h⟩
  have hP := bigSep_congr (s := Finset.univ) fun o _ => psA_other I c he o (fun h => by cases h) (fun _ h => by cases h)
  have hO := outA_other I c he (fun h => by cases h)
  have hs0 : sndA (F := F) c n i = iprop(anyS (ds i) (tgt i c) ∗ dutyTok ER (sendCell i c) 0 0 ∗ dutyTok ER (recvCell i (tgt i c)) 0 0 ∗ atPos ER (sendCell i c) 0 ∅ 0) := by
    unfold sndA; rw [hwt, bef_self he]; rfl
  have hs1 : sndA (F := F) c (n + 1) i = iprop(cred (tallyAt (sendCell i c) () N) ∗ atPos ER (sendCell i c) 0 ∅ 0) := by
    unfold sndA; rw [bef_other he (by intro h; cases h), hwt, bef_succ he]; rfl
  have hl0 : leafA I c n (ss i) (lf i) = leafS I (lf i) (ss i) c := by
    unfold leafA lent; rw [sndAt_ss]; show (if (bef n (.snd i) && !bef n (.wt i)) = true then _ else _) = _; rw [bef_self he]; rfl
  have hl1 : leafA I c (n + 1) (ss i) (lf i) = iprop(emp) := by
    unfold leafA lent; rw [sndAt_ss]; show (if (bef (n + 1) (.snd i) && !bef (n + 1) (.wt i)) = true then _ else _) = _
    rw [bef_succ he, bef_other he (by intro h; cases h), hwt]; rfl
  have hf1 : filled (n + 1) (ss i) = true := (filled_other he _ (fun _ _ h => by cases h) (fun h => by cases h)).trans hfill
  have hm0 : slotA I c n (ss i) = bigSep Finset.univ (leafA I c n (ss i)) := by unfold slotA; rw [hfill]; rfl
  have hm1 : slotA I c (n + 1) (ss i) = bigSep Finset.univ (leafA I c (n + 1) (ss i)) := by unfold slotA; rw [hf1]; rfl
  rw [hm1, hleaf, hl1] at hM
  unfold AA owesA at h ⊢
  rw [hS, hs1, hR, hM, hP, hO] at h
  rw [fam_at (sndA c n) i, hs0, fam_at (slotA I c n) (ss i), hm0, fam_at (leafA I c n (ss i)) (lf i), hl0, hrest]
  unfold facts leafS anyS owns at *
  iintro ⟨⟨#Hrec, #Hlev⟩, ⟨%W, HO⟩, ⟨⟨⟨%X, %fd, %hfd, Hdst⟩, HtS, HtR, HaS⟩, HS⟩, HR, ⟨⟨⟨%fs, %hfs, Hsrc⟩, HL⟩, HM⟩, Hrest⟩
  iapply (Rounds.wp_send_pointsTo 𝒱₀ ER (rd I) (c : Thread nD τ) none (κ₁ := K c (.inl (some (.inl i)))) (κ₂ := K (tgt i c) (.inl (some (.inr i))))
    (r₁ := 0) (r₂ := 0) (d₁ := 0) (d₂ := 0) (fd := fd) (c' := (tgt i c : Thread nD τ)) (sS := .dma (sendS i)) (sem := .dma (recvS i))
    (by rw [duties_send]; exact Finset.mem_singleton_self _) (by rw [duties_recv]; exact Finset.mem_singleton_self _)
    () () N (amount_slot _ _ _) rfl rfl (owedL c (rest (n + 1))) rfl (W := W)
    (by rw [payload_send]; unfold sendPay leafS owns
        iintro H; iexists fs; isplitr; · ipureintro; exact hfs
        iexact H)
    (by rw [payload_recv]; unfold recvPay fullS owns
        iintro H; iexists _; isplitr; swap; · iexact H
        ipureintro; exact (View.read_write_univ _ _).trans (hfs.trans (sX_send I i c).symm))) $$ [Hsrc Hdst HO HtS HtR]
  · isplitr; · iapply (inv_at I K c (.inl (some (.inl i)))); iexact Hrec
    isplitr; · iapply (inv_at I K (tgt i c) (.inl (some (.inr i)))); iexact Hrec
    isplitl [Hsrc]; · iexact Hsrc
    isplitl [Hdst]; · iexact Hdst
    isplitl [HO]; · iexact HO
    isplitl [HtS]; · iexact HtS
    isplitr; · iapply (reached_at I K c (.inl (some (.inl i)))); iexact Hrec
    isplitl [HtR]; · iexact HtR
    iapply (reached_at I K (tgt i c) (.inl (some (.inr i)))); iexact Hrec
  iintro ⟨Hc, HO⟩
  iapply h
  isplitr
  · isplitr; · iexact Hrec
    iexact Hlev
  isplitl [HO]; · iexists W; iexact HO
  isplitl [Hc HaS HS]
  · isplitl [Hc HaS]
    · isplitl [Hc]; · iexact Hc
      iexact HaS
    iexact HS
  isplitl [HR]; · iexact HR
  isplitl [HL HM]
  · isplitl [HL]
    · isplitr; · iempintro
      iexact HL
    iexact HM
  iexact Hrest

end Send

section Wait

theorem pts_leaves {ℓ : Loc nD τ sig} (S : Finset (Idx ℓ)) (f : Buf (Elt F) ℓ) (P : Buf (Elt F) ℓ → Prop) (hP : P f) :
    (ℓ ↦[S]{fullShare} f : sProp 𝕄) ⊢ bigSep (Finset.univ : Finset (Fin 8)) fun L => iprop(∃ f, ⌜P f⌝ ∗ ℓ ↦[S]{leafQ L} f) := by
  unfold leafQ
  rw [ShareLeaves.pointsTo_leaves S f 3 fullShare]
  refine BI.bigSep_mono fun L _ => ?_
  show (ℓ ↦[S]{ShareLeaves.leaf 3 fullShare L} f : sProp 𝕄) ⊢ iprop(∃ f, ⌜P f⌝ ∗ ℓ ↦[S]{ShareLeaves.leaf 3 fullShare L} f)
  iintro H; iexists f
  isplitr; · ipureintro; exact hP
  iexact H
/-- A filled slot, whole, is its eight shares. -/
theorem full_leaves (s : Slot) : fullS I s c ⊢ bigSep Finset.univ fun L : Fin 8 => leafS I L s c := by
  unfold fullS leafS owns
  iintro ⟨%f, %hf, H⟩
  iapply (pts_leaves (ℓ := (sM s c).view.loc (c : Thread nD τ)) (sM s c).view.set f (fun f => (sM s c).view.read (Elt F) f = sX I s c) hf)
  iexact H

/-- A wait for an arrival. -/
theorem step_rcv (n : ℕ) (i : Snd) {sp : Space} {s' : Shape} {e' : EltTy} {src : Memref sig .tc sp s' e'} {dst : Memref sig .tc .vmem S256x1024 .bf16} {q : DmaSem sig}
    {hw : src.view.WordExact} {hw' : dst.view.WordExact} {k : PUnit → Prog (TpuEff nD τ sig (Elt F) Λ₀ .tc) α}
    (hq : q = recvS i) (hN : dst.view.dmaCredit = N)
    (hc : At n (.rcv i) ∧ (∀ i' ∈ rest n, lvR i < lvR i') ∧ ∀ L, lent (n + 1) (ds i) L = false)
    (h : AA I K c (n + 1) ⊢ Wp c (k ⟨⟩) Q) :
    AA I K c n ⊢ Wp c (Prog.lift (.waitDma2 q src dst hw hw') >>= k) Q := by
  subst hq
  obtain ⟨he, hlev, hlent⟩ := hc
  have hS := bigSep_congr (s := Finset.univ) fun j _ => sndA_other (F := F) c he j (fun h => by cases h) (fun h => by cases h)
  have hR := fam_upd (Φ := rcvA (F := F) c n) (Ψ := rcvA c (n + 1)) i fun j hj => rcvA_other c he j (fun h => hj (Ev.rcv.inj h).symm)
  have hM := fam_upd (Φ := slotA I c n) (Ψ := slotA I c (n + 1)) (ds i) fun s hs => slotA_other I c he s
    (fun i' hi' h => hs (by cases h; exact dstOf_eq _ _ hi')) (fun h => by cases h) (fun _ _ _ => ⟨(fun h => by cases h), fun h => by cases h⟩)
  have hP := bigSep_congr (s := Finset.univ) fun o _ => psA_other I c he o (fun h => by cases h) (fun _ h => by cases h)
  have hO := outA_other I c he (fun h => by cases h)
  have hW := owesA_other (F := F) c he (fun i h => by cases h)
  have hr0 : rcvA (F := F) c n i = iprop(cred (tallyAt (recvCell i c) () N) ∗ atPos ER (recvCell i c) 0 ∅ 0) := by
    unfold rcvA; rw [bef_self he]; rfl
  have hr1 : rcvA (F := F) c (n + 1) i = atPos ER (recvCell i c) 1 ∅ 0 := by unfold rcvA; rw [bef_succ he]; rfl
  have hm0 : slotA I c n (ds i) = iprop(emp) := by
    unfold slotA filled; rw [dstOf_ds]; show (if bef n (.rcv i) = true then _ else _) = _; rw [bef_self he]; rfl
  have hm1 : slotA I c (n + 1) (ds i) = bigSep Finset.univ fun L : Fin 8 => leafS I L (ds i) c := by
    unfold slotA filled; rw [dstOf_ds]; show (if bef (n + 1) (.rcv i) = true then _ else _) = _; rw [bef_succ he, if_pos rfl]
    refine bigSep_congr fun L _ => ?_
    unfold leafA; rw [hlent L]; rfl
  unfold AA at h ⊢
  rw [hS, hR, hr1, hM, hm1, hP, hO, hW] at h
  rw [fam_at (rcvA c n) i, hr0, fam_at (slotA I c n) (ds i), hm0]
  unfold owesA facts at *
  iintro ⟨⟨#Hrec, #Hlev⟩, ⟨%W, HO⟩, HS, ⟨⟨Hc, Ha⟩, HR⟩, ⟨_, HM⟩, Hrest⟩
  iapply (Rounds.wp_wait_rest_token 𝒱₀ ER (rd I) (c : Thread nD τ) none (κ := K c (.inl (some (.inr i)))) (sm := .dma (recvS i)) (k' := N)
    (fun Kt => by rw [wpE_waitDma2_eq 𝒱₀ (c : Thread nD τ) none Set.univ, hN]) (Set.mem_univ _) () (O := owedL c (rest n)) (W := W) (R := 0) (m := 0) (T := ∅)
    (by rw [Nat.zero_add]; exact (expect_recv I c i).symm)) $$ [Hc HO Ha]
  · isplitr; · iapply (inv_at I K c (.inl (some (.inr i)))); iexact Hrec
    isplitl [Hc]; · iexact Hc
    isplitl [HO]; · iexact HO
    isplitr; · iapply (mayWait_of c (.dma (recvS i)) (rest n) (by intro i' hi'; rw [lvS_recv]; exact hlev i' hi')); iexact Hlev
    iexact Ha
  rw [Finset.sdiff_empty, duties_recv, bigSep_singleton, payload_recv]
  unfold recvPay
  iintro ⟨HO, Ha, _, Hp⟩
  ihave Hp := full_leaves I c (ds i) $$ Hp
  iapply h
  isplitr
  · isplitr; · iexact Hrec
    iexact Hlev
  isplitl [HO]; · iexists _; iexact HO
  isplitl [HS]; · iexact HS
  isplitl [Ha HR]
  · isplitl [Ha]; · iexact Ha
    iexact HR
  isplitl [Hp HM]
  · isplitl [Hp]; · iexact Hp
    iexact HM
  iexact Hrest

/-- A wait for a transfer's end. -/
theorem step_wt (n : ℕ) (i : Snd) {sp : Space} {s' : Shape} {e' : EltTy} {src : Memref sig .tc sp s' e'} {dst : Memref sig .tc .vmem S256x1024 .bf16} {q : DmaSem sig}
    {hw : src.view.WordExact} {hw' : dst.view.WordExact} {k : PUnit → Prog (TpuEff nD τ sig (Elt F) Λ₀ .tc) α}
    (hq : q = sendS i) (hN : dst.view.dmaCredit = N)
    (hc : At n (.wt i) ∧ rest n = [] ∧ bef n (.snd i) = true ∧ filled n (ss i) = true)
    (h : AA I K c (n + 1) ⊢ Wp c (k ⟨⟩) Q) :
    AA I K c n ⊢ Wp c (Prog.lift (.waitDma2 q src dst hw hw') >>= k) Q := by
  subst hq
  obtain ⟨he, hrest, hsnd, hfill⟩ := hc
  have hS := fam_upd (Φ := sndA (F := F) c n) (Ψ := sndA c (n + 1)) i fun j hj => sndA_other c he j (fun h => by cases h) (fun h => hj (Ev.wt.inj h).symm)
  have hR := bigSep_congr (s := Finset.univ) fun j _ => rcvA_other (F := F) c he j (fun h => by cases h)
  have hleaf := fam_upd (Φ := leafA I c n (ss i)) (Ψ := leafA I c (n + 1) (ss i)) (lf i) fun L hL => leafA_other I c he (ss i) L fun i' hi' =>
    ⟨(fun h => by cases h), fun h => hL (by cases h; exact (sndAt_eq _ _ _ hi').2)⟩
  have hM := fam_upd (Φ := slotA I c n) (Ψ := slotA I c (n + 1)) (ss i) fun s hs => slotA_other I c he s (fun _ _ h => by cases h) (fun h => by cases h)
    fun L i' hi' => ⟨(fun h => by cases h), fun h => hs (by cases h; exact (sndAt_eq _ _ _ hi').1)⟩
  have hP := bigSep_congr (s := Finset.univ) fun o _ => psA_other I c he o (fun h => by cases h) (fun _ h => by cases h)
  have hO := outA_other I c he (fun h => by cases h)
  have hW := owesA_other (F := F) c he (fun i h => by cases h)
  have hs0 : sndA (F := F) c n i = iprop(cred (tallyAt (sendCell i c) () N) ∗ atPos ER (sendCell i c) 0 ∅ 0) := by
    unfold sndA; rw [bef_self he, hsnd]; rfl
  have hs1 : sndA (F := F) c (n + 1) i = atPos ER (sendCell i c) 1 ∅ 0 := by
    unfold sndA; rw [bef_succ he]; rfl
  have hl0 : leafA I c n (ss i) (lf i) = iprop(emp) := by
    unfold leafA lent; rw [sndAt_ss]; show (if (bef n (.snd i) && !bef n (.wt i)) = true then _ else _) = _; rw [bef_self he, hsnd]; rfl
  have hl1 : leafA I c (n + 1) (ss i) (lf i) = leafS I (lf i) (ss i) c := by
    unfold leafA lent; rw [sndAt_ss]; show (if (bef (n + 1) (.snd i) && !bef (n + 1) (.wt i)) = true then _ else _) = _
    rw [bef_succ he, bef_other he (by intro h; cases h), hsnd]; rfl
  have hf1 : filled (n + 1) (ss i) = true := (filled_other he _ (fun _ _ h => by cases h) (fun h => by cases h)).trans hfill
  have hm0 : slotA I c n (ss i) = bigSep Finset.univ (leafA I c n (ss i)) := by unfold slotA; rw [hfill]; rfl
  have hm1 : slotA I c (n + 1) (ss i) = bigSep Finset.univ (leafA I c (n + 1) (ss i)) := by unfold slotA; rw [hf1]; rfl
  rw [hm1, hleaf, hl1] at hM
  unfold AA at h ⊢
  rw [hS, hs1, hR, hM, hP, hO, hW] at h
  rw [fam_at (sndA c n) i, hs0, fam_at (slotA I c n) (ss i), hm0, fam_at (leafA I c n (ss i)) (lf i), hl0]
  unfold owesA facts at *
  iintro ⟨⟨#Hrec, #Hlev⟩, ⟨%W, HO⟩, ⟨⟨Hc, Ha⟩, HS⟩, HR, ⟨⟨_, HL⟩, HM⟩, Hrest⟩
  iapply (Rounds.wp_wait_rest_token 𝒱₀ ER (rd I) (c : Thread nD τ) none (κ := K c (.inl (some (.inl i)))) (sm := .dma (sendS i)) (k' := N)
    (fun Kt => by rw [wpE_waitDma2_eq 𝒱₀ (c : Thread nD τ) none Set.univ, hN]) (Set.mem_univ _) () (O := owedL c (rest n)) (W := W) (R := 0) (m := 0) (T := ∅)
    (by rw [Nat.zero_add]; exact (expect_send I c i).symm)) $$ [Hc HO Ha]
  · isplitr; · iapply (inv_at I K c (.inl (some (.inl i)))); iexact Hrec
    isplitl [Hc]; · iexact Hc
    isplitl [HO]; · iexact HO
    isplitr; · iapply (mayWait_of c (.dma (sendS i)) (rest n) (by intro i' hi'; rw [hrest] at hi'; cases hi')); iexact Hlev
    iexact Ha
  rw [Finset.sdiff_empty, duties_send, bigSep_singleton, payload_send]
  unfold sendPay
  iintro ⟨HO, Ha, _, Hp⟩
  iapply h
  isplitr
  · isplitr; · iexact Hrec
    iexact Hlev
  isplitl [HO]; · iexists _; iexact HO
  isplitl [Ha HS]
  · isplitl [Ha]; · iexact Ha
    iexact HS
  isplitl [HR]; · iexact HR
  isplitl [Hp HL HM]
  · isplitl [Hp HL]
    · isplitl [Hp]; · iexact Hp
      iexact HL
    iexact HM
  iexact Hrest

end Wait

section Slots
variable {s' : Shape} {M : Memref sig .tc .vmem s' .bf16} {r : Rect s'} {hr : ∀ a, r.stride a = 1} {hsq : r.shape.Squeezes S256x1024}

/-- A filled slot read. -/
theorem step_load (n : ℕ) (s : Slot) {hl : M.view.LoadsAt r.toLoadRect} {k : (r.shape.Idx → Elt F .bf16) → Prog (TpuEff nD τ sig (Elt F) Λ₀ .tc) α}
    (v : r.shape.Idx → Elt F .bf16) (hm : sM s c = (M.slice r hr).squeeze S256x1024 hsq) (hX : sX I s c = fun j => v (Shape.reshapeEquiv hsq.numel_eq j))
    (hc : filled n s = true ∧ lent n s 7 = false) (h : AA I K c n ⊢ Wp c (k v) Q) :
    AA I K c n ⊢ Wp c (Prog.lift (.load M r.toLoadRect hl) >>= k) Q := by
  obtain ⟨hfill, hlent⟩ := hc
  have hm0 : slotA I c n s = bigSep Finset.univ (leafA I c n s) := by unfold slotA; rw [hfill]; rfl
  have hl0 : leafA I c n s 7 = owns (c : Thread nD τ) ((M.slice r hr).squeeze S256x1024 hsq) (leafQ 7) (sX I s c) := by
    unfold leafA; rw [hlent, if_neg (by decide)]; unfold leafS; rw [hm]
  unfold AA at h ⊢
  rw [fam_at (slotA I c n) s, hm0, fam_at (leafA I c n s) 7, hl0] at h ⊢
  unfold owns at *
  iintro ⟨#Hf, HO, HS, HR, ⟨⟨⟨%f, %hf, H⟩, HL⟩, HM⟩, Hrest⟩
  have hv : (M.access r).read (Elt F) f = v := by
    funext x
    obtain ⟨j, rfl⟩ := (Shape.reshapeEquiv hsq.numel_eq).surjective x
    exact (congrFun hf j).trans (congrFun hX j)
  iapply (wp_load_rect 𝒱₀ (c : Thread nD τ) none Set.univ (m := M) (r := r) (f := f) (q := leafQ 7)
    (S := ((M.slice r hr).squeeze S256x1024 hsq).view.set) (View.set_reshape (M.access r) hsq.numel_eq).symm.subset) $$ H
  iintro H
  rw [hv]
  iapply h
  isplitr; · iexact Hf
  isplitl [HO]; · iexact HO
  isplitl [HS]; · iexact HS
  isplitl [HR]; · iexact HR
  isplitl [H HL HM]
  · isplitl [H HL]
    · isplitl [H]
      · iexists f; isplitr; · ipureintro; exact hf
        iexact H
      iexact HL
    iexact HM
  iexact Hrest

/-- A slot not yet filled read, the value not used. -/
theorem step_load_any (n : ℕ) (s : Slot) {hl : M.view.LoadsAt r.toLoadRect} {k : (r.shape.Idx → Elt F .bf16) → Prog (TpuEff nD τ sig (Elt F) Λ₀ .tc) α}
    (hm : sM s c = (M.slice r hr).squeeze S256x1024 hsq)
    (hc : filled n s = false ∧ (dstOf s).isSome = false) (h : ∀ v, AA I K c n ⊢ Wp c (k v) Q) :
    AA I K c n ⊢ Wp c (Prog.lift (.load M r.toLoadRect hl) >>= k) Q := by
  obtain ⟨hfill, hd⟩ := hc
  have hm0 : slotA I c n s = iprop(∃ X, owns (c : Thread nD τ) ((M.slice r hr).squeeze S256x1024 hsq) fullShare X) := by
    unfold slotA; rw [hfill, hd]; show anyS s c = _; unfold anyS; rw [hm]
  unfold AA at h ⊢
  rw [fam_at (slotA I c n) s, hm0] at h ⊢
  unfold owns at *
  iintro ⟨#Hf, HO, HS, HR, ⟨⟨%X, %f, %hf, H⟩, HM⟩, Hrest⟩
  iapply (wp_load_rect 𝒱₀ (c : Thread nD τ) none Set.univ (m := M) (r := r) (f := f) (q := fullShare)
    (S := ((M.slice r hr).squeeze S256x1024 hsq).view.set) (View.set_reshape (M.access r) hsq.numel_eq).symm.subset) $$ H
  iintro H
  iapply (h _)
  isplitr; · iexact Hf
  isplitl [HO]; · iexact HO
  isplitl [HS]; · iexact HS
  isplitl [HR]; · iexact HR
  isplitl [H HM]
  · isplitl [H]
    · iexists X, f; isplitr; · ipureintro; exact hf
      iexact H
    iexact HM
  iexact Hrest

/-- A slot of its own filled. -/
theorem step_st (n : ℕ) (s : Slot) {w : r.shape.Idx → Elt F .bf16} {hx : (M.access r).Stores Finset.univ} {hu : Finset.univ = Finset.univ ∨ ∀ a, r.stride a = 1}
    {k : PUnit → Prog (TpuEff nD τ sig (Elt F) Λ₀ .tc) α}
    (hm : sM s c = (M.slice r hr).squeeze S256x1024 hsq) (hX : sX I s c = fun j => w (Shape.reshapeEquiv hsq.numel_eq j))
    (hc : At n (.st s) ∧ dstOf s = none ∧ ∀ L, lent (n + 1) s L = false) (h : AA I K c (n + 1) ⊢ Wp c (k ⟨⟩) Q) :
    AA I K c n ⊢ Wp c (Prog.lift (.store M r w Finset.univ hx hu) >>= k) Q := by
  obtain ⟨he, hd, hlent⟩ := hc
  have hS := bigSep_congr (s := Finset.univ) fun j _ => sndA_other (F := F) c he j (fun h => by cases h) (fun h => by cases h)
  have hR := bigSep_congr (s := Finset.univ) fun j _ => rcvA_other (F := F) c he j (fun h => by cases h)
  have hM := fam_upd (Φ := slotA I c n) (Ψ := slotA I c (n + 1)) s fun s₁ hs => slotA_other I c he s₁
    (fun _ _ h => by cases h) (fun h => hs (Ev.st.inj h).symm) (fun _ _ _ => ⟨(fun h => by cases h), fun h => by cases h⟩)
  have hP := bigSep_congr (s := Finset.univ) fun o _ => psA_other I c he o (fun h => by cases h) (fun _ h => by cases h)
  have hO := outA_other I c he (fun h => by cases h)
  have hW := owesA_other (F := F) c he (fun i h => by cases h)
  have hm0 : slotA I c n s = iprop(∃ X, owns (c : Thread nD τ) ((M.slice r hr).squeeze S256x1024 hsq) fullShare X) := by
    unfold slotA filled; rw [hd]; show (if bef n (.st s) = true then _ else anyS s c) = _
    rw [bef_self he, if_neg (by decide)]; unfold anyS; rw [hm]
  have hm1 : slotA I c (n + 1) s = bigSep Finset.univ fun L : Fin 8 => leafS I L s c := by
    unfold slotA filled; rw [hd]; show (if bef (n + 1) (.st s) = true then _ else _) = _; rw [bef_succ he, if_pos rfl]
    refine bigSep_congr fun L _ => ?_
    unfold leafA; rw [hlent L]; rfl
  have hfull : fullS I s c = owns (c : Thread nD τ) ((M.slice r hr).squeeze S256x1024 hsq) fullShare (sX I s c) := by unfold fullS; rw [hm]
  have hleaf := full_leaves I c s
  rw [hfull] at hleaf
  unfold AA at h ⊢
  rw [hS, hR, hM, hm1, hP, hO, hW] at h
  rw [fam_at (slotA I c n) s, hm0]
  unfold owns at *
  iintro ⟨#Hf, HO, HS, HR, ⟨⟨%X, %f, %hf, H⟩, HM⟩, Hrest⟩
  iapply (wp_store 𝒱₀ (c : Thread nD τ) none Set.univ (m := M) (r := r) (w := w) (Mk := Finset.univ) (f := f)
    (S := ((M.slice r hr).squeeze S256x1024 hsq).view.set) (View.set_reshape (M.access r) hsq.numel_eq).symm.subset) $$ H
  iintro H
  ihave HL := hleaf $$ [H]
  · iexists _; isplitr; swap; · iexact H
    ipureintro
    exact (funext fun j => congrFun (View.read_write_univ (v := M.access r) f w) (Shape.reshapeEquiv hsq.numel_eq j)).trans hX.symm
  iapply h
  isplitr; · iexact Hf
  isplitl [HO]; · iexact HO
  isplitl [HS]; · iexact HS
  isplitl [HR]; · iexact HR
  isplitl [HL HM]
  · isplitl [HL]; · iexact HL
    iexact HM
  iexact Hrest

end Slots

section Others

/-- A buffer the state keeps read. -/
theorem step_keep {A : sProp 𝕄} {s' : Shape} {e' : EltTy} {M : Memref sig .tc .vmem s' e'} {r : Rect s'} {hl : M.view.LoadsAt r.toLoadRect}
    {k : (r.shape.Idx → Elt F e') → Prog (TpuEff nD τ sig (Elt F) Λ₀ .tc) α} (S : Finset (Idx (M.view.loc (c : Thread nD τ)))) (v : r.shape.Idx → Elt F e')
    (hS : (M.access r).set ⊆ S)
    (hb : A ⊢ iprop(∃ f, ⌜(M.access r).read (Elt F) f = v⌝ ∗ (M.view.loc (c : Thread nD τ) ↦[S]{fullShare} f) ∗ ((M.view.loc (c : Thread nD τ) ↦[S]{fullShare} f) -∗ A)))
    (h : A ⊢ Wp c (k v) Q) : A ⊢ Wp c (Prog.lift (.load M r.toLoadRect hl) >>= k) Q := by
  refine hb.trans ?_
  iintro ⟨%f, %hv, H, Hb⟩
  iapply (wp_load_rect 𝒱₀ (c : Thread nD τ) none Set.univ (m := M) (r := r) (f := f) (q := fullShare) (S := S) hS) $$ H
  iintro H
  rw [hv]
  iapply h
  iapply Hb; iexact H

/-- The same, the value not used. -/
theorem step_keep_any {A : sProp 𝕄} {s' : Shape} {e' : EltTy} {M : Memref sig .tc .vmem s' e'} {r : Rect s'} {hl : M.view.LoadsAt r.toLoadRect}
    {k : (r.shape.Idx → Elt F e') → Prog (TpuEff nD τ sig (Elt F) Λ₀ .tc) α} (S : Finset (Idx (M.view.loc (c : Thread nD τ))))
    (hS : (M.access r).set ⊆ S)
    (hb : A ⊢ iprop(∃ f, (M.view.loc (c : Thread nD τ) ↦[S]{fullShare} f) ∗ ((M.view.loc (c : Thread nD τ) ↦[S]{fullShare} f) -∗ A)))
    (h : ∀ v, A ⊢ Wp c (k v) Q) : A ⊢ Wp c (Prog.lift (.load M r.toLoadRect hl) >>= k) Q := by
  refine hb.trans ?_
  iintro ⟨%f, H, Hb⟩
  iapply (wp_load_rect 𝒱₀ (c : Thread nD τ) none Set.univ (m := M) (r := r) (f := f) (q := fullShare) (S := S) hS) $$ H
  iintro H
  iapply (h _)
  iapply Hb; iexact H

theorem AA_ins (n : ℕ) : AA I K c n ⊢ iprop(insA I c ∗ (insA I c -∗ AA I K c n)) := by
  unfold AA
  iintro ⟨Hf, HO, HS, HR, HM, HP, HU, HI, HA⟩
  isplitl [HI]; · iexact HI
  iintro HI
  isplitl [Hf]; · iexact Hf
  isplitl [HO]; · iexact HO
  isplitl [HS]; · iexact HS
  isplitl [HR]; · iexact HR
  isplitl [HM]; · iexact HM
  isplitl [HP]; · iexact HP
  isplitl [HU]; · iexact HU
  isplitl [HI]; · iexact HI
  iexact HA
theorem AA_out (n : ℕ) : AA I K c n ⊢ iprop(outA I c n ∗ (outA I c n -∗ AA I K c n)) := by
  unfold AA
  iintro ⟨Hf, HO, HS, HR, HM, HP, HU, HI, HA⟩
  isplitl [HU]; · iexact HU
  iintro HU
  isplitl [Hf]; · iexact Hf
  isplitl [HO]; · iexact HO
  isplitl [HS]; · iexact HS
  isplitl [HR]; · iexact HR
  isplitl [HM]; · iexact HM
  isplitl [HP]; · iexact HP
  isplitl [HU]; · iexact HU
  isplitl [HI]; · iexact HI
  iexact HA
theorem AA_ps (n : ℕ) (o : Fin 4) : AA I K c n ⊢ iprop(psA I c n o ∗ (psA I c n o -∗ AA I K c n)) := by
  unfold AA
  rw [fam_at (psA I c n) o]
  iintro ⟨Hf, HO, HS, HR, HM, ⟨HP, HPs⟩, HU, HI, HA⟩
  isplitl [HP]; · iexact HP
  iintro HP
  isplitl [Hf]; · iexact Hf
  isplitl [HO]; · iexact HO
  isplitl [HS]; · iexact HS
  isplitl [HR]; · iexact HR
  isplitl [HM]; · iexact HM
  isplitl [HP HPs]
  · isplitl [HP]; · iexact HP
    iexact HPs
  isplitl [HU]; · iexact HU
  isplitl [HI]; · iexact HI
  iexact HA

/-- A staged input read: which of them is `hb`. -/
theorem step_in (n : ℕ) {s' : Shape} {e' : EltTy} {M : Memref sig .tc .vmem s' e'} {r : Rect s'} {hl : M.view.LoadsAt r.toLoadRect}
    {k : (r.shape.Idx → Elt F e') → Prog (TpuEff nD τ sig (Elt F) Λ₀ .tc) α} (f : Buf (Elt F) (M.view.loc (c : Thread nD τ))) (v : r.shape.Idx → Elt F e')
    (hv : (M.access r).read (Elt F) f = v)
    (hb : insA I c ⊢ iprop((M.view.loc (c : Thread nD τ) ↦{fullShare} f) ∗ ((M.view.loc (c : Thread nD τ) ↦{fullShare} f) -∗ insA I c)))
    (h : AA I K c n ⊢ Wp c (k v) Q) : AA I K c n ⊢ Wp c (Prog.lift (.load M r.toLoadRect hl) >>= k) Q := by
  refine step_keep c Finset.univ v (Finset.subset_univ _) ((AA_ins I K c n).trans ?_) h
  iintro ⟨HI, Hb⟩
  ihave ⟨H, HI⟩ := hb $$ HI
  iexists f
  isplitr; · ipureintro; exact hv
  isplitl [H]; · iexact H
  iintro H
  iapply Hb; iapply HI; iexact H

theorem ins_x : insA I c ⊢ iprop(bufAt c cc0_stg0_0 (I.x c) ∗ (bufAt c cc0_stg0_0 (I.x c) -∗ insA I c)) := by
  unfold insA
  iintro ⟨H0, H⟩
  isplitl [H0]; · iexact H0
  iintro H0
  isplitl [H0]; · iexact H0
  iexact H
theorem ins_q : insA I c ⊢ iprop(bufAt c cc0_stg1_0 (I.q c) ∗ (bufAt c cc0_stg1_0 (I.q c) -∗ insA I c)) := by
  unfold insA
  iintro ⟨H0, H1, H⟩
  isplitl [H1]; · iexact H1
  iintro H1
  isplitl [H0]; · iexact H0
  isplitl [H1]; · iexact H1
  iexact H
theorem ins_k : insA I c ⊢ iprop(bufAt c cc0_stg2_0 (I.k c) ∗ (bufAt c cc0_stg2_0 (I.k c) -∗ insA I c)) := by
  unfold insA
  iintro ⟨H0, H1, H2, H⟩
  isplitl [H2]; · iexact H2
  iintro H2
  isplitl [H0]; · iexact H0
  isplitl [H1]; · iexact H1
  isplitl [H2]; · iexact H2
  iexact H
theorem ins_v : insA I c ⊢ iprop(bufAt c cc0_stg3_0 (I.v c) ∗ (bufAt c cc0_stg3_0 (I.v c) -∗ insA I c)) := by
  unfold insA
  iintro ⟨H0, H1, H2, H3, H⟩
  isplitl [H3]; · iexact H3
  iintro H3
  isplitl [H0]; · iexact H0
  isplitl [H1]; · iexact H1
  isplitl [H2]; · iexact H2
  isplitl [H3]; · iexact H3
  iexact H
theorem ins_o : insA I c ⊢ iprop(bufAt c cc0_stg4_0 (I.o c) ∗ (bufAt c cc0_stg4_0 (I.o c) -∗ insA I c)) := by
  unfold insA
  iintro ⟨H0, H1, H2, H3, H⟩
  isplitl [H]; · iexact H
  iintro H
  isplitl [H0]; · iexact H0
  isplitl [H1]; · iexact H1
  isplitl [H2]; · iexact H2
  isplitl [H3]; · iexact H3
  iexact H

/-- The output, or a running share, read before it is overwritten. -/
theorem step_out_any (n : ℕ) {r : Rect S1x256x1024} {hl : (Memref.whole cc0_stg5_0 : Memref sig .tc .vmem S1x256x1024 .f32).view.LoadsAt r.toLoadRect}
    {k : (r.shape.Idx → Elt F .f32) → Prog (TpuEff nD τ sig (Elt F) Λ₀ .tc) α} (h : ∀ v, AA I K c n ⊢ Wp c (k v) Q) :
    AA I K c n ⊢ Wp c (Prog.lift (.load (Memref.whole cc0_stg5_0 : Memref sig .tc .vmem S1x256x1024 .f32) r.toLoadRect hl) >>= k) Q := by
  refine step_keep_any c Finset.univ (Finset.subset_univ _) ((AA_out I K c n).trans ?_) h
  unfold outA
  split_ifs
  · iintro ⟨H, Hb⟩
    iexists (outV I c); isplitl [H]; · iexact H
    iexact Hb
  · iintro ⟨⟨%X, H⟩, Hb⟩
    iexists X; isplitl [H]; · iexact H
    iintro H; iapply Hb; iexists X; iexact H

variable {off : Fin 3 → ℕ} {inb : ∀ a, off a + S1x256x1024.size a ≤ S4x256x1024.size a}

/-- A running share read. -/
theorem step_ps_load (n : ℕ) (o : Fin 4) (X : FVec F S1x256x1024 .f32)
    {hl : (Memref.whole cc0_scratch1 : Memref sig .tc .vmem S4x256x1024 .f32).view.LoadsAt (Rect.unit (s := S4x256x1024) off S1x256x1024.size inb).toLoadRect}
    {k : FVec F S1x256x1024 .f32 → Prog (TpuEff nD τ sig (Elt F) Λ₀ .tc) α}
    (hoff : off = ![o.val, 0, 0]) (hX : psA I c n o = psAt c o X) (h : AA I K c n ⊢ Wp c (k X) Q) :
    AA I K c n ⊢ Wp c (Prog.lift (.load (Memref.whole cc0_scratch1 : Memref sig .tc .vmem S4x256x1024 .f32) (Rect.unit (s := S4x256x1024) off S1x256x1024.size inb).toLoadRect hl) >>= k) Q := by
  subst hoff
  refine step_keep c (psM o).view.set X (Finset.Subset.refl _) ((AA_ps I K c n o).trans ?_) h
  rw [hX]
  unfold psAt owns
  iintro ⟨⟨%f, %hf, H⟩, Hb⟩
  iexists f
  isplitr; · ipureintro; exact hf
  isplitl [H]; · iexact H
  iintro H
  iapply Hb; iexists f
  isplitr; · ipureintro; exact hf
  iexact H
theorem psA_share {n : ℕ} {o : Fin 4} (hc : bef n (.ps o) = true ∧ bef n .ac = false) : psA I c n o = psAt c o (psV I c (sh o.val 0 c)) := by
  unfold psA; rw [hc.1, hc.2, if_neg (fun h => by cases h.2)]; rfl
theorem psA_row {n : ℕ} (hc : bef n .ac = true) : psA I c n 0 = psAt c 0 (accV I c) := by
  unfold psA; rw [hc]; rfl

theorem step_ps_any (n : ℕ) (o : Fin 4)
    {hl : (Memref.whole cc0_scratch1 : Memref sig .tc .vmem S4x256x1024 .f32).view.LoadsAt (Rect.unit (s := S4x256x1024) off S1x256x1024.size inb).toLoadRect}
    {k : FVec F S1x256x1024 .f32 → Prog (TpuEff nD τ sig (Elt F) Λ₀ .tc) α}
    (hoff : off = ![o.val, 0, 0]) (hc : bef n .ac = false) (h : ∀ X, AA I K c n ⊢ Wp c (k X) Q) :
    AA I K c n ⊢ Wp c (Prog.lift (.load (Memref.whole cc0_scratch1 : Memref sig .tc .vmem S4x256x1024 .f32) (Rect.unit (s := S4x256x1024) off S1x256x1024.size inb).toLoadRect hl) >>= k) Q := by
  subst hoff
  by_cases hp : bef n (.ps o) = true
  · exact step_ps_load I K c n o _ rfl (psA_share I c ⟨hp, hc⟩) (h _)
  refine step_keep_any c (psM o).view.set (Finset.Subset.refl _) ((AA_ps I K c n o).trans ?_) h
  rw [show psA I c n o = iprop(∃ X, psAt c o X) from by
    unfold psA; rw [hc, if_neg (fun h => by cases h.2), if_neg hp]]
  unfold psAt owns
  iintro ⟨⟨%X, %f, %hf, H⟩, Hb⟩
  iexists f
  isplitl [H]; · iexact H
  iintro H
  iapply Hb; iexists X, f
  isplitr; · ipureintro; exact hf
  iexact H

/-- A running share written. -/
theorem ps_put (n : ℕ) (o : Fin 4) (e : Ev) (Y : FVec F S1x256x1024 .f32)
    {hx : ((Memref.whole cc0_scratch1 : Memref sig .tc .vmem S4x256x1024 .f32).access (Rect.unit (s := S4x256x1024) off S1x256x1024.size inb)).Stores Finset.univ}
    {hu : Finset.univ = Finset.univ ∨ ∀ a, (Rect.unit (s := S4x256x1024) off S1x256x1024.size inb).stride a = 1}
    {k : PUnit → Prog (TpuEff nD τ sig (Elt F) Λ₀ .tc) α}
    (hoff : off = ![o.val, 0, 0]) (he : At n e) (hex : e = .ps o ∨ (e = .ac ∧ o = 0))
    (h0 : psA I c n o ⊢ iprop(∃ X, psAt c o X)) (h1 : psA I c (n + 1) o = psAt c o Y)
    (h : AA I K c (n + 1) ⊢ Wp c (k ⟨⟩) Q) :
    AA I K c n ⊢ Wp c (Prog.lift (.store (Memref.whole cc0_scratch1 : Memref sig .tc .vmem S4x256x1024 .f32) (Rect.unit (s := S4x256x1024) off S1x256x1024.size inb) Y Finset.univ hx hu) >>= k) Q := by
  subst hoff
  have hne : (∀ i, e ≠ .snd i) ∧ (∀ i, e ≠ .rcv i) ∧ (∀ i, e ≠ .wt i) ∧ (∀ i, e ≠ .st i) ∧ e ≠ .out := by
    rcases hex with rfl | ⟨rfl, _⟩ <;> exact ⟨fun _ => by simp, fun _ => by simp, fun _ => by simp, fun _ => by simp, by simp⟩
  obtain ⟨n1, n2, n3, n4, n5⟩ := hne
  have hS := bigSep_congr (s := Finset.univ) fun j _ => sndA_other (F := F) c he j (n1 _) (n3 _)
  have hR := bigSep_congr (s := Finset.univ) fun j _ => rcvA_other (F := F) c he j (n2 _)
  have hM := bigSep_congr (s := Finset.univ) fun s _ => slotA_other I c he s (fun _ _ => n2 _) (n4 _) (fun _ _ _ => ⟨n1 _, n3 _⟩)
  have hP := fam_upd (Φ := psA I c n) (Ψ := psA I c (n + 1)) o fun o' ho => psA_other I c he o'
    (fun h => by rcases hex with rfl | ⟨rfl, _⟩ <;> simp at h; exact ho h.symm)
    (fun h h' => by rcases hex with rfl | ⟨_, rfl⟩; · simp at h'
                    exact ho h)
  have hO := outA_other I c he n5
  have hW := owesA_other (F := F) c he n1
  unfold AA at h ⊢
  rw [hS, hR, hM, hP, h1, hO, hW] at h
  rw [fam_at (psA I c n) o]
  refine (sep_mono_right (sep_mono_right (sep_mono_right (sep_mono_right (sep_mono_right (sep_mono_left (sep_mono_left h0))))))).trans ?_
  unfold psAt owns at *
  iintro ⟨#Hf, HO, HS, HR, HM, ⟨⟨%X, %f, %hf, H⟩, HP⟩, Hrest⟩
  iapply (wp_store 𝒱₀ (c : Thread nD τ) none Set.univ (m := (Memref.whole cc0_scratch1 : Memref sig .tc .vmem S4x256x1024 .f32)) (r := psR o) (w := Y) (Mk := Finset.univ) (f := f)
    (S := (psM o).view.set) (Finset.Subset.refl _)) $$ H
  iintro H
  iapply h
  isplitr; · iexact Hf
  isplitl [HO]; · iexact HO
  isplitl [HS]; · iexact HS
  isplitl [HR]; · iexact HR
  isplitl [HM]; · iexact HM
  isplitl [H HP]
  · isplitl [H]
    · iexists _; isplitr; swap; · iexact H
      ipureintro; exact View.read_write_univ _ _
    iexact HP
  iexact Hrest

theorem step_ps (n : ℕ) (o : Fin 4)  {w : FVec F S1x256x1024 .f32}
    {hx : ((Memref.whole cc0_scratch1 : Memref sig .tc .vmem S4x256x1024 .f32).access (Rect.unit (s := S4x256x1024) off S1x256x1024.size inb)).Stores Finset.univ}
    {hu : Finset.univ = Finset.univ ∨ ∀ a, (Rect.unit (s := S4x256x1024) off S1x256x1024.size inb).stride a = 1}
    {k : PUnit → Prog (TpuEff nD τ sig (Elt F) Λ₀ .tc) α}
    (hoff : off = ![o.val, 0, 0]) (hw : w = psV I c (sh o.val 0 c)) (hc : At n (.ps o) ∧ bef n .ac = false)
    (h : AA I K c (n + 1) ⊢ Wp c (k ⟨⟩) Q) :
    AA I K c n ⊢ Wp c (Prog.lift (.store (Memref.whole cc0_scratch1 : Memref sig .tc .vmem S4x256x1024 .f32) (Rect.unit (s := S4x256x1024) off S1x256x1024.size inb) w Finset.univ hx hu) >>= k) Q := by
  subst hw
  obtain ⟨he, ha⟩ := hc
  refine ps_put I K c n o (.ps o) _ hoff he (.inl rfl) ?_ (psA_share I c ⟨bef_succ he, (bef_other he (by simp)).trans ha⟩) h
  unfold psA; rw [ha, bef_self he, if_neg (fun h => by cases h.2)]; exact Entails.refl _
theorem step_ac (n : ℕ) {w : FVec F S1x256x1024 .f32}
    {hx : ((Memref.whole cc0_scratch1 : Memref sig .tc .vmem S4x256x1024 .f32).access (Rect.unit (s := S4x256x1024) off S1x256x1024.size inb)).Stores Finset.univ}
    {hu : Finset.univ = Finset.univ ∨ ∀ a, (Rect.unit (s := S4x256x1024) off S1x256x1024.size inb).stride a = 1}
    {k : PUnit → Prog (TpuEff nD τ sig (Elt F) Λ₀ .tc) α}
    (hoff : off = ![(0 : Fin 4).val, 0, 0]) (hw : w = accV I c) (hc : At n .ac ∧ bef n (.ps 0) = true)
    (h : AA I K c (n + 1) ⊢ Wp c (k ⟨⟩) Q) :
    AA I K c n ⊢ Wp c (Prog.lift (.store (Memref.whole cc0_scratch1 : Memref sig .tc .vmem S4x256x1024 .f32) (Rect.unit (s := S4x256x1024) off S1x256x1024.size inb) w Finset.univ hx hu) >>= k) Q := by
  subst hw
  obtain ⟨he, hp⟩ := hc
  refine ps_put I K c n 0 .ac _ hoff he (.inr ⟨rfl, rfl⟩) ?_ (psA_row I c (bef_succ he)) h
  rw [psA_share I c ⟨hp, bef_self he⟩]
  iintro H; iexists _; iexact H

/-- The result written. -/
theorem step_out (n : ℕ) {off : Fin 3 → ℕ} {inb : ∀ a, off a + S1x256x1024.size a ≤ S1x256x1024.size a} {w : FVec F S1x256x1024 .f32}
    {hx : ((Memref.whole cc0_stg5_0 : Memref sig .tc .vmem S1x256x1024 .f32).access (Rect.unit (s := S1x256x1024) off S1x256x1024.size inb)).Stores Finset.univ}
    {hu : Finset.univ = Finset.univ ∨ ∀ a, (Rect.unit (s := S1x256x1024) off S1x256x1024.size inb).stride a = 1}
    {k : PUnit → Prog (TpuEff nD τ sig (Elt F) Λ₀ .tc) α}
    (hoff : off = fun _ => 0) (hw : w = outV I c) (he : At n .out)
    (h : AA I K c (n + 1) ⊢ Wp c (k ⟨⟩) Q) :
    AA I K c n ⊢ Wp c (Prog.lift (.store (Memref.whole cc0_stg5_0 : Memref sig .tc .vmem S1x256x1024 .f32) (Rect.unit (s := S1x256x1024) off S1x256x1024.size inb) w Finset.univ hx hu) >>= k) Q := by
  subst hw
  have hS := bigSep_congr (s := Finset.univ) fun j _ => sndA_other (F := F) c he j (by simp) (by simp)
  have hR := bigSep_congr (s := Finset.univ) fun j _ => rcvA_other (F := F) c he j (by simp)
  have hM := bigSep_congr (s := Finset.univ) fun s _ => slotA_other I c he s (by simp) (by simp) (by simp)
  have hP := bigSep_congr (s := Finset.univ) fun o _ => psA_other I c he o (by simp) (by simp)
  have hW := owesA_other (F := F) c he (by simp)
  have h1 : outA I c (n + 1) = bufAt c cc0_stg5_0 (outV I c) := by unfold outA; rw [bef_succ he]; rfl
  have h0 : outA I c n = iprop(∃ X, bufAt c cc0_stg5_0 X) := by unfold outA; rw [bef_self he]; rfl
  unfold AA at h ⊢
  rw [hS, hR, hM, hP, h1, hW] at h
  rw [h0]
  iintro ⟨#Hf, HO, HS, HR, HM, HP, ⟨%f, H⟩, Hrest⟩
  iapply (wp_store 𝒱₀ (c : Thread nD τ) none Set.univ (m := (Memref.whole cc0_stg5_0 : Memref sig .tc .vmem S1x256x1024 .f32)) (r := Rect.unit (s := S1x256x1024) off S1x256x1024.size inb) (w := outV I c)
    (Mk := Finset.univ) (f := f) (S := Finset.univ) (Finset.subset_univ _)) $$ H
  rw [show ((Memref.whole cc0_stg5_0 : Memref sig .tc .vmem S1x256x1024 .f32).access (Rect.unit (s := S1x256x1024) off S1x256x1024.size inb)).write (Elt F) f (outV I c) Finset.univ = outV I c from
    Memref.write_access_unit_zero_univ (Elt F) cc0_stg5_0 hoff inb f (outV I c)]
  iintro H
  iapply h
  isplitr; · iexact Hf
  isplitl [HO]; · iexact HO
  isplitl [HS]; · iexact HS
  isplitl [HR]; · iexact HR
  isplitl [HM]; · iexact HM
  isplitl [HP]; · iexact HP
  isplitl [H]; · iexact H
  iexact Hrest

end Others

end Cert.Mha

end
-- ==== Proof.Shake.lean ====
/-
The handshake: six signals, each handing over the slots that the device in its direction fills, then the wait that
brings the slots on other devices.
-/
module

public import proofs.«01_k».proof.Proof.Steps

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD → Cel → ℕ) (c : Dev nD)

/-- The directions still to signal after `m` signals. -/
def dirs (m : ℕ) : List (Fin 6) := (List.finRange 6).drop m

/-- What the signal of direction `d` spends. -/
def sigA (m : ℕ) (d : Fin 6) : sProp 𝕄 :=
  if d.val < m then iprop(emp) else iprop(dutyTok ER (barCell (bt d c)) 0 (opp d) ∗ barPay (opp d) (bt d c))
/-- A transfer not started, without its target's slot. -/
def sndB (i : Snd) : sProp 𝕄 := iprop(dutyTok ER (sendCell i c) 0 0 ∗ dutyTok ER (recvCell i (tgt i c)) 0 0 ∗ atPos ER (sendCell i c) 0 ∅ 0)
/-- Device `c`'s state after `m` signals. -/
def AB (m : ℕ) : sProp 𝕄 :=
  iprop(facts I K ∗ (∃ W, owes (c : Thread nD τ) (owedB c allSnd (dirs m)) W) ∗ bigSep Finset.univ (sigA c m)
    ∗ cred (tallyAt (barCell c) () 6) ∗ atPos ER (barCell c) 0 ∅ 0 ∗ bigSep Finset.univ (sndB c)
    ∗ bigSep Finset.univ (rcvA c 0) ∗ bigSep Finset.univ (slotA I c 0)
    ∗ bigSep Finset.univ (psA I c 0) ∗ outA I c 0 ∗ insA I c ∗ bigSep Finset.univ fun b : Bool => atPos ER (kcell (c, .inr b)) 0 ∅ 0)

variable {α β : Type} {Q : α → sProp (MT nD τ sig Unit (Elt F) ℕ UU ℕ)}

/-- A signal. -/
theorem step_sig (m : ℕ) (d : Fin 6) {t : Dev nD} {s : Sem sig} {k : PUnit → Prog (TpuEff nD τ sig (Elt F) Λ₀ .tc) α}
    (ht : t = bt d c) (hs : s = barS) (hc : d.val = m ∧ dirs m = d :: dirs (m + 1)) (h : AB I K c (m + 1) ⊢ Wp c (k ⟨⟩) Q) :
    AB I K c m ⊢ Wp c (semSignalWord t s 1#32 >>= k) Q := by
  subst ht hs
  obtain ⟨hm, hd⟩ := hc
  have hS := fam_upd (Φ := sigA (F := F) c m) (Ψ := sigA c (m + 1)) d fun j hj => by
    have : j.val ≠ m := fun h => hj (Fin.ext (h.trans hm.symm))
    unfold sigA
    by_cases hl : j.val < m
    · rw [if_pos hl, if_pos (by omega)]
    · rw [if_neg hl, if_neg (by omega)]
  have h0 : sigA (F := F) c m d = iprop(dutyTok ER (barCell (bt d c)) 0 (opp d) ∗ barPay (opp d) (bt d c)) := if_neg (by omega)
  have h1 : sigA (F := F) c (m + 1) d = iprop(emp) := if_pos (by omega)
  unfold AB at h ⊢
  rw [hS, h1] at h
  rw [fam_at (sigA c m) d, h0, hd]
  unfold facts at *
  iintro ⟨⟨#Hrec, #Hlev⟩, ⟨%W, HO⟩, ⟨⟨Ht, Hp⟩, HS⟩, Hrest⟩
  iapply (Rounds.wp_signal 𝒱₀ ER (rd I) (c : Thread nD τ) none (dst := (bt d c : Thread nD τ)) (κ := K (bt d c) (.inl none)) (sem := barS) (k' := 1)
      (d := opp d) (by rw [duties_bar]; exact Finset.mem_univ _) rfl () (owedB c allSnd (dirs (m + 1))) rfl) $$ [HO Ht Hp]
  · isplitr; · iapply (inv_at I K (bt d c) (.inl none)); iexact Hrec
    isplitl [HO]; · iexact HO
    isplitl [Ht]; · iexact Ht
    isplitl [Hp]; · rw [payload_bar]; iexact Hp
    iapply (reached_at I K (bt d c) (.inl none)); iexact Hrec
  iintro HO
  iapply h
  isplitr
  · isplitr; · iexact Hrec
    iexact Hlev
  isplitl [HO]; · iexists W; iexact HO
  isplitl [HS]
  · isplitr; · iempintro
    iexact HS
  iexact Hrest

/-- The wait that ends it. -/
theorem step_bar {s : Sem sig} {k : PUnit → Prog (TpuEff nD τ sig (Elt F) Λ₀ .tc) α}
    (hs : s = barS) (h : AA I K c 0 ⊢ Wp c (k ⟨⟩) Q) :
    AB I K c 6 ⊢ Wp c (semWaitWord s 6#32 >>= k) Q := by
  subst hs
  have e1 : owedB c allSnd (dirs 6) = owedL c (rest 0) := by
    rw [show rest 0 = allSnd by decide +kernel]; rfl
  have e2 : (bigSep Finset.univ (sndA (F := F) c 0)) = iprop((bigSep Finset.univ fun i : Snd => anyS (ds i) (tgt i c)) ∗ bigSep Finset.univ (sndB c)) := by
    rw [← bigSep_sep']
    refine bigSep_congr fun i _ => ?_
    unfold sndA sndB
    rw [show bef 0 (.wt i) = false from rfl, show bef 0 (.snd i) = false from rfl]; rfl
  unfold AB
  unfold AA owesA offA at h
  rw [e2] at h
  unfold facts at *
  rw [e1]
  iintro ⟨⟨#Hrec, #Hlev⟩, ⟨%W, HO⟩, _, Hc, Ha, HS, HR, HM, HP, HU, HI, HN⟩
  iapply (Rounds.wp_wait_rest_token 𝒱₀ ER (rd I) (c : Thread nD τ) none (κ := K c (.inl none)) (sm := .reg barS) (k' := 6)
    (wpE_semWait_eq 𝒱₀ (c : Thread nD τ) none Set.univ) (Set.mem_univ _) () (O := owedL c (rest 0)) (W := W) (R := 0) (m := 0) (T := ∅)
    (by rw [Nat.zero_add]; exact (expect_bar I c).symm)) $$ [Hc HO Ha]
  · isplitr; · iapply (inv_at I K c (.inl none)); iexact Hrec
    isplitl [Hc]; · iexact Hc
    isplitl [HO]; · iexact HO
    isplitr; · iapply (mayWait_of c (.reg barS) (rest 0) (fun i _ => lvR_pos i)); iexact Hlev
    iexact Ha
  rw [rest_bar]
  iintro ⟨HO, Ha, _, Hp⟩
  iapply h
  isplitr
  · isplitr; · iexact Hrec
    iexact Hlev
  isplitl [HO]; · iexists _; iexact HO
  isplitl [Hp HS]
  · isplitl [Hp]; · iexact Hp
    iexact HS
  isplitl [HR]; · iexact HR
  isplitl [HM]; · iexact HM
  isplitl [HP]; · iexact HP
  isplitl [HU]; · iexact HU
  isplitl [HI]; · iexact HI
  isplitl [Ha]; · iexact Ha
  iexact HN

end Cert.Mha

end
-- ==== Proof.Ends.lean ====
/-
The body's two ends: its first state from what the launch deals and its scratch, and its last state back to the
scratch with every semaphore at zero.
-/
module

public import proofs.«01_k».proof.Proof.Whole
public import proofs.«01_k».proof.Proof.Shake

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD → Cel → ℕ) (c : Dev nD)

/-! ## The start -/

/-- What the handshake's signals hand out: the slots of device `c` that other devices' transfers fill. -/
theorem given_eq : (bigSep Finset.univ fun d : Fin 6 => barPay (F := F) (opp d) (bt d c)) = bigSep Finset.univ fun i : Snd => anyS (ds i) c := by
  have hU : (Finset.univ : Finset Snd) = (Finset.univ : Finset (Fin 6)).biUnion fun d => Finset.univ.filter fun i : Snd => dirOf i = opp d := by
    ext i
    refine ⟨fun _ => Finset.mem_biUnion.mpr ⟨opp (dirOf i), Finset.mem_univ _, Finset.mem_filter.mpr ⟨Finset.mem_univ _, (opp_opp _).symm⟩⟩, fun _ => Finset.mem_univ _⟩
  have hb (d : Fin 6) : bt (opp d) (bt d c) = c := by have := bt_opp (opp d) c; rwa [opp_opp] at this
  refine Eq.trans (bigSep_congr fun d _ => ?_) ((congrArg (fun S => bigSep S fun i : Snd => anyS (F := F) (ds i) c) hU).trans
    (bigSep_biUnion_eq _ _ _ fun d _ d' _ h => Finset.disjoint_filter.mpr fun i _ h1 h2 => h (by
      have := congrArg opp (h1.symm.trans h2); rwa [opp_opp, opp_opp] at this))).symm
  refine bigSep_congr fun i hi => ?_
  rw [tgt_eq_bt, (Finset.mem_filter.mp hi).2, hb]

theorem filled_zero : ∀ s, filled 0 s = false := by decide +kernel
theorem bef_zero (e : Ev) : bef 0 e = false := decide_eq_false (Nat.not_lt_zero _)

/-- All slots: those other devices fill and those the device fills. -/
theorem slots_split : (bigSep Finset.univ fun s => anyS (F := F) s c) = iprop((bigSep Finset.univ fun i : Snd => anyS (ds i) c) ∗ bigSep Finset.univ (slotA I c 0)) := by
  have hsub : (Finset.univ.filter fun s : Slot => (dstOf s).isSome = true) = Finset.univ.map ⟨ds, ds_injective⟩ := by
    ext s
    constructor
    · intro h
      obtain ⟨i, hi⟩ := Option.isSome_iff_exists.mp (Finset.mem_filter.mp h).2
      exact Finset.mem_map.mpr ⟨i, Finset.mem_univ _, (dstOf_eq s i hi).symm⟩
    · intro h
      obtain ⟨i, -, rfl⟩ := Finset.mem_map.mp h
      exact Finset.mem_filter.mpr ⟨Finset.mem_univ _, by show (dstOf (ds i)).isSome = true; rw [dstOf_ds]; rfl⟩
  have h1 : (bigSep (Finset.univ.filter fun s : Slot => (dstOf s).isSome = true) fun s => anyS (F := F) s c) = bigSep Finset.univ fun i : Snd => anyS (ds i) c := by
    rw [hsub, bigSep_map]; rfl
  have h2 : bigSep Finset.univ (slotA I c 0) = bigSep (Finset.univ.filter fun s : Slot => ¬(dstOf s).isSome = true) fun s => anyS (F := F) s c := by
    rw [bigSep_filter]
    refine bigSep_congr fun s _ => ?_
    unfold slotA
    rw [filled_zero s, if_neg Bool.false_ne_true]
    by_cases h : (dstOf s).isSome = true
    · rw [if_pos h, if_neg (not_not_intro h)]; rfl
    · rw [if_neg h, if_pos h]
  rw [h2, ← h1]
  exact bigSep_filter_split Finset.univ _

/-- The body's first state. -/
theorem AB_intro :
    iprop(facts I K ∗ (∃ W, owes (c : Thread nD τ) (owedB c allSnd (dirs 0)) W) ∗ (bigSep Finset.univ fun d : Fin 6 => dutyTok ER (barCell (bt d c)) 0 (opp d))
      ∗ cred (tallyAt (barCell c) () 6) ∗ atPos ER (barCell c) 0 ∅ 0 ∗ bigSep Finset.univ (sndB c)
      ∗ (bigSep Finset.univ fun i : Snd => cred (tallyAt (recvCell i c) () N)) ∗ (bigSep Finset.univ fun i : Snd => atPos ER (recvCell i c) 0 ∅ 0)
      ∗ scratchA c ∗ (∃ X, bufAt c cc0_stg5_0 X) ∗ insA I c ∗ bigSep Finset.univ fun b : Bool => atPos ER (kcell (c, .inr b)) 0 ∅ 0)
      ⊢ AB I K c 0 := by
  have hS : bigSep Finset.univ (sigA (F := F) c 0) = iprop((bigSep Finset.univ fun d : Fin 6 => dutyTok ER (barCell (bt d c)) 0 (opp d)) ∗ bigSep Finset.univ fun i : Snd => anyS (ds i) c) := by
    rw [← given_eq c, ← bigSep_sep']
    exact bigSep_congr fun d _ => by unfold sigA; rw [if_neg (Nat.not_lt_zero _)]
  have hR : bigSep Finset.univ (rcvA (F := F) c 0) = iprop((bigSep Finset.univ fun i : Snd => cred (tallyAt (recvCell i c) () N)) ∗ bigSep Finset.univ fun i : Snd => atPos ER (recvCell i c) 0 ∅ 0) := by
    rw [← bigSep_sep']
    exact bigSep_congr fun i _ => by unfold rcvA; rw [bef_zero, if_neg Bool.false_ne_true]
  have hP : bigSep Finset.univ (psA I c 0) = bigSep Finset.univ fun o : Fin 4 => iprop(∃ X, psAt c o X) :=
    bigSep_congr fun o _ => by
      unfold psA
      rw [bef_zero, bef_zero, if_neg (fun h => Bool.false_ne_true h.2), if_neg Bool.false_ne_true]
  have hO : outA I c 0 = iprop(∃ X, bufAt c cc0_stg5_0 X) := by unfold outA; rw [bef_zero, if_neg Bool.false_ne_true]
  unfold AB scratchA
  rw [hS, hR, hP, hO, slots_split I c]
  iintro ⟨Hf, HO, Ht, Hcb, Hab, Hs, Hcr, Har, ⟨⟨Hg, Hsl⟩, Hps⟩, Hout, Hin, Hoff⟩
  isplitl [Hf]; · iexact Hf
  isplitl [HO]; · iexact HO
  isplitl [Ht Hg]
  · isplitl [Ht]; · iexact Ht
    iexact Hg
  isplitl [Hcb]; · iexact Hcb
  isplitl [Hab]; · iexact Hab
  isplitl [Hs]; · iexact Hs
  isplitl [Hcr Har]
  · isplitl [Hcr]; · iexact Hcr
    iexact Har
  isplitl [Hsl]; · iexact Hsl
  isplitl [Hps]; · iexact Hps
  isplitl [Hout]; · iexact Hout
  isplitl [Hin]; · iexact Hin
  iexact Hoff

/-! ## The end -/

theorem bef_all : (∀ i : Snd, bef 112 (.wt i) = true) ∧ (∀ i : Snd, bef 112 (.rcv i) = true) ∧ (∀ s, filled 112 s = true)
    ∧ (∀ s L, lent 112 s L = false) ∧ (∀ o, bef 112 (.ps o) = true) ∧ bef 112 .out = true ∧ rest 112 = [] := by decide +kernel

theorem unused : ∀ b : Bool, ∀ i : Snd, .dma (sendS i) ≠ csem (.inr b) ∧ .dma (recvS i) ≠ csem (.inr b) := by decide +kernel
theorem duties_off (b : Bool) : ∀ r, 0 ≤ r → (rd I).duties (kcell (c, .inr b)) r = ∅ := by
  have h := unused b
  cases b
  · exact duties_unused I c 9 fun ⟨i, hi⟩ => hi.elim (fun e => (h i).1 (congrArg SemLoc.dma e)) (fun e => (h i).2 (congrArg SemLoc.dma e))
  · exact duties_unused I c 64 fun ⟨i, hi⟩ => hi.elim (fun e => (h i).1 (congrArg SemLoc.dma e)) (fun e => (h i).2 (congrArg SemLoc.dma e))

/-- A family of cells at their last round, closed. -/
theorem close_all {ι : Type} [Fintype ι] [DecidableEq ι] (k : ι → Cel) (R : ℕ) (hR : ∀ i, ∀ r, R ≤ r → (rd I).duties (kcell (c, k i)) r = ∅) :
    iprop(records I K ∗ bigSep Finset.univ fun i : ι => atPos ER (kcell (c, k i)) R ∅ 0) ⊢ (|={Set.univ}=> bigSep Finset.univ fun i : ι => semVal (kcell (c, k i)) 0 : sProp 𝕄) := by
  refine (sep_mono_left (BI.bigSep_of_persistent (Finset.univ : Finset ι) (records I K))).trans ?_
  rw [← bigSep_sep']
  refine (bigSep_mono fun i _ => ?_).trans (bigSep_fupd _ _)
  show iprop(records I K ∗ atPos ER (kcell (c, k i)) R ∅ 0) ⊢ (|={Set.univ}=> semVal (kcell (c, k i)) 0 : sProp 𝕄)
  iintro ⟨#Hrec, Hat⟩
  iapply (Rounds.cell_close ER (rd I) (κ := K c (k i)) (Set.mem_univ _) (fun h => h) (R := R) (hR i))
  isplitr
  · iapply (inv_at I K c (k i)); iexact Hrec
  · iexact Hat

/-- Every cell of a device at zero. -/
def semsA : sProp 𝕄 := bigSep Finset.univ fun k : Cel => semVal (kcell (c, k)) 0
theorem cels_eq (Φ : Cel → sProp 𝕄) : bigSep Finset.univ Φ
    = iprop((Φ (.inl none) ∗ (bigSep Finset.univ fun i : Snd => Φ (.inl (some (.inl i)))) ∗ bigSep Finset.univ fun i : Snd => Φ (.inl (some (.inr i)))) ∗ bigSep Finset.univ fun b : Bool => Φ (.inr b)) := by
  have h : bigSep Finset.univ (fun a : Option (Snd ⊕ Snd) => Φ (.inl a)) = iprop(Φ (.inl none) ∗ bigSep Finset.univ fun a : Snd ⊕ Snd => Φ (.inl (some a))) := by
    rw [bigSep_univ_equiv (Equiv.optionEquivSumPUnit.{0, 0} (Snd ⊕ Snd)).symm, bigSep_univ_sum, bigSep_univ_of_subsingleton PUnit.unit]
    refine Eq.trans (show _ = iprop((bigSep Finset.univ fun a : Snd ⊕ Snd => Φ (.inl (some a))) ∗ Φ (.inl none)) from rfl) ?_
    exact eq_of (by iintro ⟨H1, H2⟩; isplitl [H2] <;> iassumption) (by iintro ⟨H1, H2⟩; isplitl [H2] <;> iassumption)
  rw [bigSep_univ_sum, h, bigSep_univ_sum]; rfl

/-- The body's last state. -/
theorem AA_exit :
    AA I K c 112 ⊢ (|={Set.univ}=> iprop((∃ W, owes (c : Thread nD τ) 0 W) ∗ scratchA c ∗ bufAt c cc0_stg5_0 (outV I c) ∗ insA I c ∗ semsA c) : sProp 𝕄) := by
  obtain ⟨h1, h2, h3, h4, h5, h6, h7⟩ := bef_all
  have hS : bigSep Finset.univ (sndA (F := F) c 112) = bigSep Finset.univ fun i : Snd => atPos ER (kcell (c, .inl (some (.inl i)))) 1 ∅ 0 :=
    bigSep_congr fun i _ => by unfold sndA; rw [h1, if_pos rfl]; rfl
  have hR : bigSep Finset.univ (rcvA (F := F) c 112) = bigSep Finset.univ fun i : Snd => atPos ER (kcell (c, .inl (some (.inr i)))) 1 ∅ 0 :=
    bigSep_congr fun i _ => by unfold rcvA; rw [h2, if_pos rfl]; rfl
  have hL : bigSep Finset.univ (slotA I c 112) ⊢ (bigSep Finset.univ fun s => anyS (F := F) s c) := bigSep_mono fun s _ => by
    unfold slotA
    rw [h3, if_pos rfl]
    refine BI.Entails.trans (Entails.of_eq (bigSep_congr fun L _ => ?_)) (leaves_any I c s)
    unfold leafA; rw [h4, if_neg Bool.false_ne_true]
  have hP : bigSep Finset.univ (psA I c 112) ⊢ (bigSep Finset.univ fun o : Fin 4 => iprop(∃ X, psAt (F := F) c o X)) := bigSep_mono fun o _ => by
    unfold psA
    rw [h5 o, if_pos rfl]
    split
    · show psAt c o (accV I c) ⊢ iprop(∃ X, psAt (F := F) c o X); iintro H; iexists (accV I c); iexact H
    · show psAt c o (psV I c (sh o.val 0 c)) ⊢ iprop(∃ X, psAt (F := F) c o X); iintro H; iexists (psV I c (sh o.val 0 c)); iexact H
  have hO : outA I c 112 = bufAt c cc0_stg5_0 (outV I c) := by unfold outA; rw [h6, if_pos rfl]
  unfold AA owesA offA semsA scratchA facts
  rw [hS, hR, hO, h7, cels_eq]
  iintro ⟨⟨#Hrec, -⟩, HO, Hs, Hr, Hsl, Hps, Hout, Hin, Hb, Hoff⟩
  imod (close_all I K c (fun i : Snd => .inl (some (.inl i))) 1 (fun i => duties_later I _)) $$ [Hs] with Zs
  · isplitr; · iexact Hrec
    iexact Hs
  imod (close_all I K c (fun i : Snd => .inl (some (.inr i))) 1 (fun i => duties_later I _)) $$ [Hr] with Zr
  · isplitr; · iexact Hrec
    iexact Hr
  imod (close_all I K c (fun b : Bool => .inr b) 0 (fun b => duties_off I c b)) $$ [Hoff] with Zo
  · isplitr; · iexact Hrec
    iexact Hoff
  imod (Rounds.cell_close ER (rd I) (κ := K c (.inl none)) (Set.mem_univ _) (fun h => h) (R := 1) (duties_later I (barCell c))) $$ [Hb] with Zb
  · isplitr
    · iapply (inv_at I K c (.inl none)); iexact Hrec
    · iexact Hb
  ihave Hsl := hL $$ Hsl
  ihave Hps := hP $$ Hps
  imodintro
  isplitl [HO]; · iexact HO
  isplitl [Hsl Hps]
  · isplitl [Hsl]; · iexact Hsl
    iexact Hps
  isplitl [Hout]; · iexact Hout
  isplitl [Hin]; · iexact Hin
  isplitr [Zo]
  · isplitl [Zb]; · iexact Zb
    isplitl [Zs]; · iexact Zs
    iexact Zr
  · iexact Zo

end Cert.Mha

end
-- ==== Proof.Ghost.lean ====
/-
What the launch deals: the cells and their tokens, dealt to the devices that spend them, and the credits the launch's
owed units make.
-/
module

public import proofs.«01_k».proof.Proof.Ends

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-! ## The cells -/

/-- The kernel's own semaphores. -/
abbrev Own : Type := (Snd ⊕ Snd) ⊕ Bool
def ownCel : Own → Cel | .inl a => .inl (some a) | .inr b => .inr b
def osem (j : Own) : SemLoc sig := csem (ownCel j)
theorem ownSemFacts : Pipeline.OwnSemFacts cfg0.spec osem := by decide +kernel

theorem csem_injective : Function.Injective csem := by decide +kernel
theorem kcell_injective : Function.Injective (kcell : Dev nD × Cel → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- A device's cells' duties: its barrier's six, one each of its transfer cells. -/
abbrev Tok : Type := Fin 6 ⊕ Snd ⊕ Snd
def tokS : Tok → SemLoc sig × Fin 6 | .inl d => (.reg barS, d) | .inr (.inl i) => (.dma (sendS i), 0) | .inr (.inr i) => (.dma (recvS i), 0)
theorem tokS_injective : Function.Injective tokS := by decide +kernel
def tokOf (x : Dev nD × Tok) : GSem nD τ sig × ℕ × Fin 6 := (((x.1 : Thread nD τ), (tokS x.2).1), 0, (tokS x.2).2)
theorem tokOf_injective : Function.Injective tokOf := by
  rintro ⟨c, k⟩ ⟨c', k'⟩ h
  have h1 : c = c' := congrArg (fun g : GSem nD τ sig × ℕ × Fin 6 => g.1.1.1) h
  have h2 : k = k' := tokS_injective (congrArg (fun g : GSem nD τ sig × ℕ × Fin 6 => (g.1.2, g.2.2)) h)
  rw [h1, h2]
def theToks : Finset (GSem nD τ sig × ℕ × Fin 6) := Finset.univ.map ⟨tokOf, tokOf_injective⟩

def u₀ : UU := (initOf (Pipeline.cells cfgs cellOf_inj) (Pipeline.launchToks cfgs cellOf_inj), initOf theCells theToks)

def toks (c : Dev nD) : sProp 𝕄 :=
  iprop((bigSep Finset.univ fun d : Fin 6 => dutyTok ER (barCell c) 0 d) ∗ (bigSep Finset.univ fun i : Snd => dutyTok ER (sendCell i c) 0 0)
    ∗ bigSep Finset.univ fun i : Snd => dutyTok ER (recvCell i c) 0 0)
def payToks (c : Dev nD) : sProp 𝕄 :=
  iprop((bigSep Finset.univ fun d : Fin 6 => dutyTok ER (barCell (bt d c)) 0 (opp d)) ∗ (bigSep Finset.univ fun i : Snd => dutyTok ER (sendCell i c) 0 0)
    ∗ bigSep Finset.univ fun i : Snd => dutyTok ER (recvCell i (tgt i c)) 0 0)
def ats (c : Dev nD) : sProp 𝕄 := bigSep Finset.univ fun k : Cel => atPos ER (kcell (c, k)) 0 ∅ 0

/-- What the launch deals device `c`, and what it has once the cells' invariants stand. -/
def G (c : Dev nD) : sProp 𝕄 :=
  iprop((bigSep Finset.univ fun k : Cel => roundState ER (rd I) (kcell (c, k)) 0) ∗ ats c ∗ (bigSep Finset.univ fun k : Cel => reached ER (kcell (c, k)) 0) ∗ toks c)
def G' (c : Dev nD) : sProp 𝕄 := iprop(∃ K, records I K ∗ ats c ∗ payToks c)

theorem fund_all : BI.own (ER (initOf theCells theToks)) ⊢ (|==> bigSep Finset.univ (G I) : sProp 𝕄) := by
  have hX (Φ : GSem nD τ sig → sProp 𝕄) : bigSep theCells Φ = bigSep Finset.univ fun c : Dev nD => bigSep Finset.univ fun k : Cel => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    refine bigSep_congr fun c _ => ?_
    rw [bigSep_univ_sum, bigSep_univ_sum]; rfl
  iintro HX
  imod (Rounds.fund ER (rd I) theCells theToks) $$ HX with ⟨Hst, Hr, Hat, Htok⟩
  imodintro
  ihave Hst := (Entails.of_eq (hX fun g => roundState ER (rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats
  rw [bigSep_sep', bigSep_sep', bigSep_sep']
  isplitl [Hst]; · iexact Hst
  isplitl [Hat]; · iexact Hat
  isplitl [Hr]; · iexact Hr
  iexact Htok

/-! ## Semaphores at zero -/

theorem sems_eq (c : Dev nD) : iprop(unscopedSems0 c ∗ Pipeline.ownSems0 (Ix := Unit) (Name := ℕ) (U := UU) (Lvl := ℕ) (Val := Elt F) (τ := τ) osem c) = (semsA c : sProp 𝕄) := by
  have hu : (unscopedSems0 c : sProp 𝕄) = semVal (kcell (c, .inl none)) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = iprop(((bigSep Finset.univ fun i : Snd => semVal (kcell (c, .inl (some (.inl i)))) 0) ∗ bigSep Finset.univ fun i : Snd => semVal (kcell (c, .inl (some (.inr i)))) 0)
        ∗ bigSep Finset.univ fun b : Bool => semVal (kcell (c, .inr b)) 0) := by
    unfold Pipeline.ownSems0; rw [bigSep_univ_sum, bigSep_univ_sum]; rfl
  unfold semsA
  rw [hu, ho, cels_eq]
  refine eq_of ?_ ?_
  · iintro ⟨H1, ⟨H2, H3⟩, H4⟩
    isplitr [H4]
    · isplitl [H1]; · iexact H1
      isplitl [H2]; · iexact H2
      iexact H3
    · iexact H4
  · iintro ⟨⟨H1, H2, H3⟩, H4⟩
    isplitl [H1]; · iexact H1
    isplitr [H4]
    · isplitl [H2]; · iexact H2
      iexact H3
    · iexact H4

/-! ## The invariants, for all devices at once -/

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Cel => iprop(∃ κ : ℕ, cellInv ER (rd I) κ (kcell (c, k)))) ∗ ats c ∗ (bigSep Finset.univ fun k : Cel => reached ER (kcell (c, k)) 0) ∗ toks c) := by
  have hI : iprop((bigSep Finset.univ fun k : Cel => semVal (kcell (c, k)) 0) ∗ bigSep Finset.univ fun k : Cel => roundState ER (rd I) (kcell (c, k)) 0)
      ⊢ (|={Set.univ}=> bigSep Finset.univ fun k : Cel => iprop(∃ κ : ℕ, cellInv ER (rd I) κ (kcell (c, k))) : sProp 𝕄) := by
    rw [← bigSep_sep']
    exact (bigSep_mono fun k _ => (Rounds.body_intro ER (rd I) (kcell (c, k))).trans inv_alloc).trans (bigSep_fupd _ _)
  unfold G
  iintro ⟨Hos, Hus, Hst, Hat, Hr, Htok⟩
  ihave Hv := (Entails.of_eq (sems_eq (F := F) c)) $$ [Hos Hus]
  · isplitl [Hus] <;> iassumption
  unfold semsA
  imod hI $$ [Hv Hst] with Hinv
  · isplitl [Hv] <;> iassumption
  imodintro
  isplitl [Hinv]; · iexact Hinv
  isplitl [Hat]; · iexact Hat
  isplitl [Hr]; · iexact Hr
  iexact Htok

def btE (d : Fin 6) : Dev nD ≃ Dev nD := ⟨bt d, bt (opp d), fun c => by have := bt_opp (opp d) c; rwa [opp_opp] at this, fun c => bt_opp d c⟩
def tgtE (i : Snd) : Dev nD ≃ Dev nD := ⟨tgt i, frm i, frm_tgt i, tgt_frm i⟩
def oppE : Fin 6 ≃ Fin 6 := ⟨opp, opp, opp_opp, opp_opp⟩

/-- Every token to the device that spends it. -/
theorem toks_around : (bigSep Finset.univ fun c : Dev nD => (toks c : sProp 𝕄)) = bigSep Finset.univ fun c : Dev nD => payToks c := by
  have h1 : (bigSep Finset.univ fun c : Dev nD => bigSep Finset.univ fun d : Fin 6 => (dutyTok ER (barCell c) 0 d : sProp 𝕄))
      = bigSep Finset.univ fun c : Dev nD => bigSep Finset.univ fun d : Fin 6 => dutyTok ER (barCell (bt d c)) 0 (opp d) := by
    rw [bigSep_univ_comm, bigSep_univ_equiv oppE]
    refine Eq.trans (bigSep_congr fun d _ => ?_) (bigSep_univ_comm _)
    exact bigSep_univ_equiv (btE d) _
  have h2 : (bigSep Finset.univ fun c : Dev nD => bigSep Finset.univ fun i : Snd => (dutyTok ER (recvCell i c) 0 0 : sProp 𝕄))
      = bigSep Finset.univ fun c : Dev nD => bigSep Finset.univ fun i : Snd => dutyTok ER (recvCell i (tgt i c)) 0 0 := by
    rw [bigSep_univ_comm]
    refine Eq.trans (bigSep_congr fun i _ => ?_) (bigSep_univ_comm _)
    exact bigSep_univ_equiv (tgtE i) _
  unfold toks payToks
  rw [bigSep_sep', bigSep_sep', bigSep_sep', bigSep_sep', h1, h2]

theorem regroup :
    (bigSep Finset.univ fun c : Dev nD => iprop((bigSep Finset.univ fun k : Cel => iprop(∃ κ : ℕ, cellInv ER (rd I) κ (kcell (c, k)))) ∗ ats c ∗ (bigSep Finset.univ fun k : Cel => reached ER (kcell (c, k)) 0) ∗ toks c) : sProp 𝕄)
      ⊢ bigSep Finset.univ (G' I) := by
  rw [bigSep_sep', bigSep_sep', bigSep_sep', toks_around, ← bigSep_univ_prod (fun ck : Dev nD × Cel => iprop(∃ κ : ℕ, cellInv ER (rd I) κ (kcell ck))),
    ← bigSep_univ_prod (fun ck : Dev nD × Cel => (reached ER (kcell ck) 0 : sProp 𝕄))]
  iintro ⟨HI, Hat, #HR, Htok⟩
  ihave HK := (BI.bigSep_exists_pi Finset.univ (fun (ck : Dev nD × Cel) (κ : ℕ) => (cellInv ER (rd I) κ (kcell ck) : sProp 𝕄))) $$ HI
  icases HK with ⟨%K, #HI⟩
  have hd : iprop(records I (fun d k => K (d, k)) ∗ bigSep Finset.univ fun c : Dev nD => iprop(ats c ∗ payToks c)) ⊢ (bigSep Finset.univ (G' I) : sProp 𝕄) := by
    refine (sep_mono_left (BI.bigSep_of_persistent (Finset.univ : Finset (Dev nD)) (records I fun d k => K (d, k)))).trans ?_
    rw [← bigSep_sep']
    refine bigSep_mono fun c _ => ?_
    show iprop(records I (fun d k => K (d, k)) ∗ ats c ∗ payToks c) ⊢ (iprop(∃ K, records I K ∗ ats c ∗ payToks c) : sProp 𝕄)
    iintro H; iexists (fun d k => K (d, k)); iexact H
  iapply hd
  rw [bigSep_sep']
  isplitr
  · unfold records; isplitl; · iexact HI
    iexact HR
  · isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

def O₀ (c : Dev nD) : CellTallies nD τ sig Unit := owedB c allSnd (dirs 0)

theorem recv_eq_iff {i j : Snd} {a b : Dev nD} : recvCell i a = recvCell j b ↔ i = j ∧ a = b :=
  ⟨fun h => ⟨recvS_injective (SemLoc.dma.inj (congrArg Prod.snd h)), congrArg (fun g : GSem nD τ sig => g.1.1) h⟩, fun ⟨h1, h2⟩ => by rw [h1, h2]⟩
theorem bar_eq_iff {a b : Dev nD} : barCell a = barCell b ↔ a = b := ⟨fun h => congrArg (fun g : GSem nD τ sig => g.1.1) h, fun h => by rw [h]⟩
theorem recv_ne_bar {i : Snd} {a b : Dev nD} : recvCell i a ≠ barCell b := fun h => by have := congrArg Prod.snd h; cases this

theorem owedL_recv (d c : Dev nD) (i : Snd) : ∀ l : List Snd, l.Nodup → owedL d l (recvCell i c) () = if i ∈ l then (if d = frm i c then N else 0) else 0
  | [], _ => rfl
  | j :: l, hl => by
    rw [List.nodup_cons] at hl
    rw [owedL, Pi.add_apply, Finsupp.add_apply, owedL_recv d c i l hl.2, tallyAt_apply]
    by_cases hij : i = j
    · subst hij
      rw [if_neg hl.1, if_pos List.mem_cons_self, Nat.zero_add]
      by_cases hd : d = frm i c
      · rw [if_pos hd, if_pos ⟨recv_eq_iff.mpr ⟨rfl, by rw [hd, tgt_frm]⟩, rfl⟩]
      · rw [if_neg hd, if_neg fun h => hd (by rw [(recv_eq_iff.mp h.1).2, frm_tgt])]
    · rw [if_neg (c := recvCell i c = recvCell j (tgt j d) ∧ () = ()) (fun h => hij (recv_eq_iff.mp h.1).1), Nat.add_zero]
      simp only [List.mem_cons, hij, false_or]
theorem owedB_recv (d c : Dev nD) (i : Snd) (l : List Snd) : ∀ D : List (Fin 6), owedB d l D (recvCell i c) () = owedL d l (recvCell i c) ()
  | [] => rfl
  | x :: D => by
    rw [owedB, Pi.add_apply, Finsupp.add_apply, owedB_recv d c i l D, tallyAt_apply, if_neg (fun h => recv_ne_bar h.1), Nat.add_zero]
theorem owedL_bar (d c : Dev nD) : ∀ l : List Snd, owedL d l (barCell c) () = 0
  | [] => rfl
  | j :: l => by
    rw [owedL, Pi.add_apply, Finsupp.add_apply, owedL_bar d c l, tallyAt_apply, if_neg (fun h => recv_ne_bar h.1.symm)]
theorem owedB_bar (c : Dev nD) (l : List Snd) : ∀ D : List (Fin 6), (∑ d : Dev nD, owedB d l D (barCell c) ()) = D.length
  | [] => Finset.sum_eq_zero fun d _ => owedL_bar d c l
  | x :: D => by
    have h : ∀ d : Dev nD, owedB d l (x :: D) (barCell c) () = owedB d l D (barCell c) () + if d = bt (opp x) c then 1 else 0 := fun d => by
      rw [owedB, Pi.add_apply, Finsupp.add_apply, tallyAt_apply]
      congr 1
      by_cases hd : d = bt (opp x) c
      · rw [if_pos hd, if_pos ⟨bar_eq_iff.mpr (by rw [hd, bt_opp]), rfl⟩]
      · rw [if_neg hd, if_neg fun h => hd (by
          have h2 := bar_eq_iff.mp h.1
          have h3 := bt_opp (opp x) d; rw [opp_opp] at h3
          rw [h2, h3])]
    rw [Finset.sum_congr rfl fun d _ => h d, Finset.sum_add_distrib, owedB_bar c l D, Finset.sum_ite_eq' Finset.univ (bt (opp x) c) fun _ => 1, if_pos (Finset.mem_univ _)]
    rfl

theorem allSnd_nodup : allSnd.Nodup := by decide +kernel
theorem mem_allSnd : ∀ i : Snd, i ∈ allSnd := by decide +kernel

theorem launch_bar (c : Dev nD) : tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same]
  exact owedB_bar c allSnd (dirs 0)
theorem launch_recv (i : Snd) (c : Dev nD) : tallyOn (recvCell i c) (launchCredit (Pipeline.owing O₀) 0 (recvCell i c)) = (tallyAt (recvCell i c) () N : CellTallies nD τ sig Unit) := by
  unfold tallyAt; refine congrArg _ (Finsupp.ext fun u => ?_); cases u
  have h : ∀ d : Dev nD, O₀ d (recvCell i c) () = if d = frm i c then N else 0 := fun d => by
    unfold O₀; rw [owedB_recv, owedL_recv d c i allSnd allSnd_nodup, if_pos (mem_allSnd i)]
  rw [Pipeline.launchCredit_owing, Finsupp.single_eq_same, Finset.sum_congr rfl fun d _ => h d, Finset.sum_ite_eq' Finset.univ (frm i c) fun _ => N, if_pos (Finset.mem_univ _)]

def recvL (i : Snd) : SemLoc sig := .dma (recvS i)
theorem recvL_injective : Function.Injective recvL := fun i j h => recvS_injective (SemLoc.dma.inj h)

theorem creds (c : Dev nD) :
    (Pipeline.launchCred O₀ c : sProp 𝕄) ⊢ iprop(cred (tallyAt (barCell c) () 6) ∗ bigSep Finset.univ fun i : Snd => cred (tallyAt (recvCell i c) () N)) := by
  unfold Pipeline.launchCred
  rw [bigSep_univ_at _ (SemLoc.reg barS), launch_bar]
  refine sep_mono_right ?_
  have h : (bigSep Finset.univ fun i : Snd => (cred (tallyAt (recvCell i c) () N) : sProp 𝕄))
      = bigSep (Finset.univ.map ⟨recvL, recvL_injective⟩) fun sm : SemLoc sig => cred (tallyOn ((c.tc : Thread nD τ), sm) (launchCredit (Pipeline.owing O₀) 0 ((c.tc : Thread nD τ), sm))) := by
    rw [bigSep_map]
    exact bigSep_congr fun i _ => congrArg cred (launch_recv i c).symm
  rw [h]
  refine bigSep_subset fun sm hsm => ?_
  obtain ⟨i, -, rfl⟩ := Finset.mem_map.mp hsm
  exact Finset.mem_erase.mpr ⟨(fun h => by cases h), Finset.mem_univ _⟩

end Cert.Mha

end
-- ==== Proof.BodyLemmas.lean ====
/-
The program text against the steps, first half: the handshake, the copies of the activations, and the first part of
the shares for the neighbours in the row.
-/
module

public import proofs.«01_k».proof.Proof.Shake

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD → Cel → ℕ) (c : Dev nD)

/-- The slot of the gathered activations, as the program spells it. -/
theorem mem_xg (z p : Fin 4) {off : Fin 3 → ℕ} {inb : ∀ a, off a + S1x256x1024.size a ≤ S16x256x1024.size a} (h : off = xgOff z p c) :
    sM (.xg z p) c = ((Memref.whole cc0_scratch0).slice (Rect.unit (s := S16x256x1024) off S1x256x1024.size inb) (fun _ => rfl)).squeeze S256x1024 squeezes_S1x256x1024_S256x1024 := by
  subst h; rfl
/-- A copy of the activations lands at the same place on the device it goes to. -/
theorem col_off : ∀ (k : Fin 3) (c : Dev nD), xgOff k.rev.succ 0 (tgt (.col k) c) = xgOff 0 0 c := by decide +kernel
theorem pl_off : ∀ (o : Fin 4) (j : Fin 3) (c : Dev nD), xgOff o j.rev.succ (tgt (.pl o j) c) = xgOff o 0 c := by decide +kernel
theorem col_dst (k : Fin 3) {off : Fin 3 → ℕ} {inb : ∀ a, off a + S1x256x1024.size a ≤ S16x256x1024.size a} (h : off = xgOff 0 0 c) :
    sM (ds (.col k)) (tgt (.col k) c) = ((Memref.whole cc0_scratch0).slice (Rect.unit (s := S16x256x1024) off S1x256x1024.size inb) (fun _ => rfl)).squeeze S256x1024 squeezes_S1x256x1024_S256x1024 :=
  mem_xg _ _ _ (h.trans (col_off k c).symm)
theorem pl_dst (o : Fin 4) (j : Fin 3) {off : Fin 3 → ℕ} {inb : ∀ a, off a + S1x256x1024.size a ≤ S16x256x1024.size a} (h : off = xgOff o 0 c) :
    sM (ds (.pl o j)) (tgt (.pl o j) c) = ((Memref.whole cc0_scratch0).slice (Rect.unit (s := S16x256x1024) off S1x256x1024.size inb) (fun _ => rfl)).squeeze S256x1024 squeezes_S1x256x1024_S256x1024 :=
  mem_xg _ _ _ (h.trans (pl_off o j c).symm)

theorem sh_self : ∀ c : Dev nD, sh 0 0 c = c := by decide +kernel
/-- What is stored in a device's own slot of the gathered activations. -/
theorem st_xg : sX I (.xg 0 0) c = fun j => k0_pay1 (I.x c) (Shape.reshapeEquiv squeezes_S1x256x1024_S256x1024.numel_eq j) := by
  have h : sX I (.xg 0 0) c = fun j => k0_pay1 (I.x (sh 0 0 c)) (Shape.reshapeEquiv squeezes_S1x256x1024_S256x1024.numel_eq j) := rfl
  rw [h, sh_self]

variable {α β : Type} {Q : α → sProp (MT nD τ sig Unit (Elt F) ℕ UU ℕ)}

/-- The end of a part of which only one property of its results matters. -/
theorem wp_end_of {P : sProp 𝕄} {a : α} (φ : α → Prop) (ha : φ a) (h : ∀ x, φ x → P ⊢ Q x) : P ⊢ Wp c (pure a) Q := wp_end_at c (h a ha)
/-- The device's own number. -/
theorem step_dev {P : sProp 𝕄} {k : Dev nD → Prog (TpuEff nD τ sig (Elt F) Λ₀ .tc) α} (h : P ⊢ Wp c (k c) Q) : P ⊢ Wp c (Prog.lift .deviceId >>= k) Q := by
  have e : Wp c (Prog.lift .deviceId >>= k) Q = Wp c (k c) Q := by
    unfold Wp
    show wp frame (wpE (defs₀ (F := F)) 𝒱₀ (c : Thread nD τ) none) Set.univ (.op .deviceId k) Q = _
    rw [wp_deviceId]
  rw [e]; exact h

theorem off_two : (![0, 0] : Fin 2 → ℕ) = fun _ => 0 := by decide
theorem off_three : (![0, 0, 0] : Fin 3 → ℕ) = fun _ => 0 := by decide

/-- A read of the whole of a buffer. -/
theorem read_zero (b : Ref sig .tc) {off : Fin b.ty.shape.rank → ℕ} (h : off = fun _ => 0) (inb : ∀ a, off a + b.ty.shape.size a ≤ b.ty.shape.size a)
    (f : b.ty.Contents (Elt F)) : ((Memref.whole b).access (Rect.unit off b.ty.shape.size inb) : View sig .tc _ _ _).read (Elt F) f = f := by
  subst h; exact Memref.read_access_whole _ b f

/-- The five staged inputs, read whole. -/
theorem step_x (n : ℕ) {inb} {hl} {k : FVec F S1x256x1024 .bf16 → Prog (TpuEff nD τ sig (Elt F) Λ₀ .tc) α} (h : AA I K c n ⊢ Wp c (k (I.x c)) Q) :
    AA I K c n ⊢ Wp c (Prog.lift (.load (Memref.whole cc0_stg0_0) (Rect.unit (s := S1x256x1024) ![0, 0, 0] S1x256x1024.size inb).toLoadRect hl) >>= k) Q :=
  step_in I K c n (I.x c) (I.x c) (read_zero cc0_stg0_0 off_three _ _) (ins_x I c) h
theorem step_q (n : ℕ) {inb} {hl} {k : FVec F S1024x1024 .bf16 → Prog (TpuEff nD τ sig (Elt F) Λ₀ .tc) α} (h : AA I K c n ⊢ Wp c (k (I.q c)) Q) :
    AA I K c n ⊢ Wp c (Prog.lift (.load (Memref.whole cc0_stg1_0) (Rect.unit (s := S1024x1024) ![0, 0] S1024x1024.size inb).toLoadRect hl) >>= k) Q :=
  step_in I K c n (I.q c) (I.q c) (read_zero cc0_stg1_0 off_two _ _) (ins_q I c) h
theorem step_k (n : ℕ) {inb} {hl} {k : FVec F S1024x1024 .bf16 → Prog (TpuEff nD τ sig (Elt F) Λ₀ .tc) α} (h : AA I K c n ⊢ Wp c (k (I.k c)) Q) :
    AA I K c n ⊢ Wp c (Prog.lift (.load (Memref.whole cc0_stg2_0) (Rect.unit (s := S1024x1024) ![0, 0] S1024x1024.size inb).toLoadRect hl) >>= k) Q :=
  step_in I K c n (I.k c) (I.k c) (read_zero cc0_stg2_0 off_two _ _) (ins_k I c) h
theorem step_v (n : ℕ) {inb} {hl} {k : FVec F S1024x1024 .bf16 → Prog (TpuEff nD τ sig (Elt F) Λ₀ .tc) α} (h : AA I K c n ⊢ Wp c (k (I.v c)) Q) :
    AA I K c n ⊢ Wp c (Prog.lift (.load (Memref.whole cc0_stg3_0) (Rect.unit (s := S1024x1024) ![0, 0] S1024x1024.size inb).toLoadRect hl) >>= k) Q :=
  step_in I K c n (I.v c) (I.v c) (read_zero cc0_stg3_0 off_two _ _) (ins_v I c) h
theorem step_o (n : ℕ) {inb} {hl} {k : FVec F S1024x1024 .bf16 → Prog (TpuEff nD τ sig (Elt F) Λ₀ .tc) α} (h : AA I K c n ⊢ Wp c (k (I.o c)) Q) :
    AA I K c n ⊢ Wp c (Prog.lift (.load (Memref.whole cc0_stg4_0) (Rect.unit (s := S1024x1024) ![0, 0] S1024x1024.size inb).toLoadRect hl) >>= k) Q :=
  step_in I K c n (I.o c) (I.o c) (read_zero cc0_stg4_0 off_two _ _) (ins_o I c) h

end Cert.Mha
-- ==== Proof.Body.lean ====
/-
The program text against the steps, operation by operation: from the state at the start to the state after the last wait.
-/
module

public import proofs.«01_k».proof.Proof.BodyLemmas

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD → Cel → ℕ) (c : Dev nD)

variable {Q : PUnit → sProp (MT nD τ sig Unit (Elt F) ℕ UU ℕ)}

set_option maxHeartbeats 4000000 in
/-- The body, from the state before the first signal. -/
theorem body_run (h : AA I K c 112 ⊢ Q ⟨⟩) : AB I K c 0 ⊢ Wp c (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q := by
  rw [cc0__body_eq_skeleton]; delta cc0__body_skel
  refine wp_then c ?_; rw [k0_part104_eq_skeleton]; delta k0_part104_skel
  -- part 1
  refine wp_then c ?_; rw [k0_part1_eq_skeleton]; delta k0_part1_skel
  refine step_dev c ?_
  refine wp_end_of c (fun x => c = x.1 ∧ x.2.2.2.2.1 = SemArray.scalar (sig.barrier 0 rfl)) ⟨rfl, rfl⟩ ?_
  rintro ⟨_, _, _, _, _, _, _, _, _, _⟩ ⟨rfl, rfl⟩
  -- part 2
  refine wp_then c ?_; rw [k0_part2_eq_skeleton]; delta k0_part2_skel
  refine step_sig I K c 0 0 (sig_eq 0 c _) rfl (by decide +kernel) ?_
  refine step_sig I K c 1 1 (sig_eq 1 c _) rfl (by decide +kernel) ?_
  refine wp_end c ?_; rintro ⟨_, _⟩
  -- part 3
  refine wp_then c ?_; rw [k0_part3_eq_skeleton]; delta k0_part3_skel
  refine step_sig I K c 2 2 (sig_eq 2 c _) rfl (by decide +kernel) ?_
  refine step_sig I K c 3 3 (sig_eq 3 c _) rfl (by decide +kernel) ?_
  refine wp_end c ?_; rintro _
  -- part 4
  refine wp_then c ?_; rw [k0_part4_eq_skeleton]; delta k0_part4_skel
  refine step_sig I K c 4 4 (sig_eq 4 c _) rfl (by decide +kernel) ?_
  refine step_sig I K c 5 5 (sig_eq 5 c _) rfl (by decide +kernel) ?_
  refine step_bar I K c rfl ?_
  refine step_x I K c 0 ?_
  refine step_load_any I K c 0 (.xg 0 0) (mem_xg c 0 0 (off1_eq c)) (by decide +kernel) fun _ => ?_
  refine step_st I K c 0 (.xg 0 0) (mem_xg c 0 0 (off1_eq c)) (st_xg I c) (by decide +kernel) ?_
  refine wp_end c ?_; rintro ⟨_, _, _⟩
  -- part 5
  refine wp_then c ?_; rw [k0_part5_eq_skeleton]; delta k0_part5_skel
  refine step_send I K c 1 (.col 0) (mem_xg c 0 0 (off2_eq c)) (col_dst c 0 (off2_eq c)) (dev_eq (.col 0) c _) rfl rfl (by decide +kernel) ?_
  refine wp_end c ?_; rintro _
  -- part 6
  refine wp_then c ?_; rw [k0_part6_eq_skeleton]; delta k0_part6_skel
  refine step_send I K c 2 (.col 1) (mem_xg c 0 0 (off2_eq c)) (col_dst c 1 (off2_eq c)) (dev_eq (.col 1) c _) rfl rfl (by decide +kernel) ?_
  refine step_send I K c 3 (.col 2) (mem_xg c 0 0 (off2_eq c)) (col_dst c 2 (off2_eq c)) (dev_eq (.col 2) c _) rfl rfl (by decide +kernel) ?_
  refine wp_end c ?_; rintro ⟨_, _, _, _, _⟩
  -- part 7
  refine wp_then c ?_; rw [k0_part7_eq_skeleton]; delta k0_part7_skel
  refine step_send I K c 4 (.pl 0 0) (mem_xg c 0 0 (off2_eq c)) (pl_dst c 0 0 (off2_eq c)) (dev_eq (.pl 0 0) c _) rfl rfl (by decide +kernel) ?_
  refine wp_end c ?_; rintro _
  -- part 8
  refine wp_then c ?_; rw [k0_part8_eq_skeleton]; delta k0_part8_skel
  refine step_send I K c 5 (.pl 0 1) (mem_xg c 0 0 (off2_eq c)) (pl_dst c 0 1 (off2_eq c)) (dev_eq (.pl 0 1) c _) rfl rfl (by decide +kernel) ?_
  refine wp_end c ?_; rintro _
  -- part 9
  refine wp_then c ?_; rw [k0_part9_eq_skeleton]; delta k0_part9_skel
  refine step_send I K c 6 (.pl 0 2) (mem_xg c 0 0 (off2_eq c)) (pl_dst c 0 2 (off2_eq c)) (dev_eq (.pl 0 2) c _) rfl rfl (by decide +kernel) ?_
  refine step_load I K c 7 (.xg 0 0) (xbV I (sh 0 0 c)) (mem_xg c 0 0 (off1_eq c)) rfl (by decide +kernel) ?_
  refine step_q I K c 7 ?_
  refine step_k I K c 7 ?_
  refine step_v I K c 7 ?_
  refine wp_end_at c ?_
  -- part 10
  refine wp_then c ?_; rw [k0_part10_eq_skeleton]; delta k0_part10_skel
  refine wp_end_at c ?_
  -- part 11
  refine wp_then c ?_; rw [k0_part11_eq_skeleton]; delta k0_part11_skel
  refine step_o I K c 7 ?_
  refine wp_end_at c ?_
  -- part 12
  refine wp_then c ?_; rw [k0_part12_eq_skeleton]; delta k0_part12_skel
  refine step_ps_any I K c 7 0 rfl (by decide +kernel) fun _ => ?_
  refine step_ps I K c 7 0 rfl rfl (by decide +kernel) ?_
  refine step_rcv I K c 8 (.col 2) rfl rfl (by decide +kernel) ?_
  refine wp_end c ?_; rintro ⟨_, _, _, _⟩
  -- part 13
  refine wp_then c ?_; rw [k0_part13_eq_skeleton]; delta k0_part13_skel
  refine step_send I K c 9 (.pl 1 0) (mem_xg c 1 0 (off3_eq c 1)) (pl_dst c 1 0 (off3_eq c 1)) (dev_eq (.pl 1 0) c _) rfl rfl (by decide +kernel) ?_
  refine wp_end c ?_; rintro ⟨_, _⟩
  -- part 14
  refine wp_then c ?_; rw [k0_part14_eq_skeleton]; delta k0_part14_skel
  refine step_send I K c 10 (.pl 1 1) (mem_xg c 1 0 (off3_eq c 1)) (pl_dst c 1 1 (off3_eq c 1)) (dev_eq (.pl 1 1) c _) rfl rfl (by decide +kernel) ?_
  refine step_send I K c 11 (.pl 1 2) (mem_xg c 1 0 (off3_eq c 1)) (pl_dst c 1 2 (off3_eq c 1)) (dev_eq (.pl 1 2) c _) rfl rfl (by decide +kernel) ?_
  refine wp_end c ?_; rintro _
  -- part 15
  refine wp_then c ?_; rw [k0_part15_eq_skeleton]; delta k0_part15_skel
  refine step_load I K c 12 (.xg 1 0) (xbV I (sh 1 0 c)) (mem_xg c 1 0 (off4_eq c 1)) rfl (by decide +kernel) ?_
  refine step_q I K c 12 ?_
  refine step_k I K c 12 ?_
  refine step_v I K c 12 ?_
  refine wp_end_at c ?_
  -- part 16
  refine wp_then c ?_; rw [k0_part16_eq_skeleton]; delta k0_part16_skel
  refine wp_end_at c ?_
  -- part 17
  refine wp_then c ?_; rw [k0_part17_eq_skeleton]; delta k0_part17_skel
  refine step_o I K c 12 ?_
  refine wp_end_at c ?_
  -- part 18
  refine wp_then c ?_; rw [k0_part18_eq_skeleton]; delta k0_part18_skel
  refine step_ps_any I K c 12 1 rfl (by decide +kernel) fun _ => ?_
  refine step_ps I K c 12 1 rfl rfl (by decide +kernel) ?_
  refine step_rcv I K c 13 (.col 1) rfl rfl (by decide +kernel) ?_
  refine wp_end c ?_; rintro ⟨_, _, _, _, _⟩
  -- part 19
  refine wp_then c ?_; rw [k0_part19_eq_skeleton]; delta k0_part19_skel
  refine step_send I K c 14 (.pl 2 0) (mem_xg c 2 0 (off3_eq c 2)) (pl_dst c 2 0 (off3_eq c 2)) (dev_eq (.pl 2 0) c _) rfl rfl (by decide +kernel) ?_
  refine wp_end c ?_; rintro ⟨_, _⟩
  -- part 20
  refine wp_then c ?_; rw [k0_part20_eq_skeleton]; delta k0_part20_skel
  refine step_send I K c 15 (.pl 2 1) (mem_xg c 2 0 (off3_eq c 2)) (pl_dst c 2 1 (off3_eq c 2)) (dev_eq (.pl 2 1) c _) rfl rfl (by decide +kernel) ?_
  refine step_send I K c 16 (.pl 2 2) (mem_xg c 2 0 (off3_eq c 2)) (pl_dst c 2 2 (off3_eq c 2)) (dev_eq (.pl 2 2) c _) rfl rfl (by decide +kernel) ?_
  refine wp_end c ?_; rintro _
  -- part 21
  refine wp_then c ?_; rw [k0_part21_eq_skeleton]; delta k0_part21_skel
  refine step_load I K c 17 (.xg 2 0) (xbV I (sh 2 0 c)) (mem_xg c 2 0 (off4_eq c 2)) rfl (by decide +kernel) ?_
  refine step_q I K c 17 ?_
  refine step_k I K c 17 ?_
  refine step_v I K c 17 ?_
  refine wp_end_at c ?_
  -- part 22
  refine wp_then c ?_; rw [k0_part22_eq_skeleton]; delta k0_part22_skel
  refine wp_end_at c ?_
  -- part 23
  refine wp_then c ?_; rw [k0_part23_eq_skeleton]; delta k0_part23_skel
  refine step_o I K c 17 ?_
  refine wp_end_at c ?_
  -- part 24
  refine wp_then c ?_; rw [k0_part24_eq_skeleton]; delta k0_part24_skel
  refine step_ps_any I K c 17 2 rfl (by decide +kernel) fun _ => ?_
  refine step_ps I K c 17 2 rfl rfl (by decide +kernel) ?_
  refine step_rcv I K c 18 (.col 0) rfl rfl (by decide +kernel) ?_
  refine wp_end c ?_; rintro ⟨_, _, _, _, _, _⟩
  -- part 25
  refine wp_then c ?_; rw [k0_part25_eq_skeleton]; delta k0_part25_skel
  refine step_send I K c 19 (.pl 3 0) (mem_xg c 3 0 (off3_eq c 3)) (pl_dst c 3 0 (off3_eq c 3)) (dev_eq (.pl 3 0) c _) rfl rfl (by decide +kernel) ?_
  refine wp_end c ?_; rintro _
  -- part 26
  refine wp_then c ?_; rw [k0_part26_eq_skeleton]; delta k0_part26_skel
  refine step_send I K c 20 (.pl 3 1) (mem_xg c 3 0 (off3_eq c 3)) (pl_dst c 3 1 (off3_eq c 3)) (dev_eq (.pl 3 1) c _) rfl rfl (by decide +kernel) ?_
  refine step_send I K c 21 (.pl 3 2) (mem_xg c 3 0 (off3_eq c 3)) (pl_dst c 3 2 (off3_eq c 3)) (dev_eq (.pl 3 2) c _) rfl rfl (by decide +kernel) ?_
  refine step_load I K c 22 (.xg 3 0) (xbV I (sh 3 0 c)) (mem_xg c 3 0 (off4_eq c 3)) rfl (by decide +kernel) ?_
  refine wp_end_at c ?_
  -- part 27
  refine wp_then c ?_; rw [k0_part27_eq_skeleton]; delta k0_part27_skel
  refine step_q I K c 22 ?_
  refine step_k I K c 22 ?_
  refine step_v I K c 22 ?_
  refine wp_end_at c ?_
  -- part 28
  refine wp_then c ?_; rw [k0_part28_eq_skeleton]; delta k0_part28_skel
  refine wp_end_at c ?_
  -- part 29
  refine wp_then c ?_; rw [k0_part29_eq_skeleton]; delta k0_part29_skel
  refine step_o I K c 22 ?_
  refine wp_end_at c ?_
  -- part 30
  refine wp_then c ?_; rw [k0_part30_eq_skeleton]; delta k0_part30_skel
  refine step_ps_any I K c 22 3 rfl (by decide +kernel) fun _ => ?_
  refine step_ps I K c 22 3 rfl rfl (by decide +kernel) ?_
  refine wp_end c ?_; rintro ⟨_, _, _, _, _, _⟩
  -- part 31
  refine wp_then c ?_; rw [k0_part31_eq_skeleton]; delta k0_part31_skel
  refine step_rcv I K c 23 (.pl 0 2) rfl rfl (by decide +kernel) ?_
  refine step_load I K c 24 (.xg 0 1) (xbV I (sh 0 1 c)) (mem_xg c 0 1 (off6_eq c 0 0)) rfl (by decide +kernel) ?_
  refine step_q I K c 24 ?_
  refine step_k I K c 24 ?_
  refine step_v I K c 24 ?_
  refine wp_end_at c ?_
  -- part 32
  refine wp_then c ?_; rw [k0_part32_eq_skeleton]; delta k0_part32_skel
  refine wp_end_at c ?_
  -- part 33
  refine wp_then c ?_; rw [k0_part33_eq_skeleton]; delta k0_part33_skel
  refine wp_end_at c ?_
  -- part 34
  refine wp_then c ?_; rw [k0_part34_eq_skeleton]; delta k0_part34_skel
  refine step_o I K c 24 ?_
  refine step_load_any I K c 24 (.pt 0 0) (hsq := squeezes_S1x1x256x1024_S256x1024) rfl (by decide +kernel) fun _ => ?_
  refine step_st I K c 24 (.pt 0 0) (hsq := squeezes_S1x1x256x1024_S256x1024) rfl rfl (by decide +kernel) ?_
  refine wp_end c ?_; rintro _
  -- part 35
  refine wp_then c ?_; rw [k0_part35_eq_skeleton]; delta k0_part35_skel
  refine step_send I K c 25 (.rs 0 0) rfl rfl (dev_eq (.rs 0 0) c _) rfl rfl (by decide +kernel) ?_
  refine step_rcv I K c 26 (.pl 1 2) rfl rfl (by decide +kernel) ?_
  refine wp_end c ?_; rintro _
  -- part 36
  refine wp_then c ?_; rw [k0_part36_eq_skeleton]; delta k0_part36_skel
  refine step_load I K c 27 (.xg 1 1) (xbV I (sh 1 1 c)) (mem_xg c 1 1 (off6_eq c 1 0)) rfl (by decide +kernel) ?_
  refine step_q I K c 27 ?_
  refine step_k I K c 27 ?_
  refine step_v I K c 27 ?_
  refine wp_end_at c ?_
  -- part 37
  refine wp_then c ?_; rw [k0_part37_eq_skeleton]; delta k0_part37_skel
  refine wp_end_at c ?_
  -- part 38
  refine wp_then c ?_; rw [k0_part38_eq_skeleton]; delta k0_part38_skel
  refine step_o I K c 27 ?_
  refine wp_end_at c ?_
  -- part 39
  refine wp_then c ?_; rw [k0_part39_eq_skeleton]; delta k0_part39_skel
  refine step_load_any I K c 27 (.pt 1 0) (hsq := squeezes_S1x1x256x1024_S256x1024) rfl (by decide +kernel) fun _ => ?_
  refine step_st I K c 27 (.pt 1 0) (hsq := squeezes_S1x1x256x1024_S256x1024) rfl rfl (by decide +kernel) ?_
  refine step_send I K c 28 (.rs 1 0) rfl rfl (dev_eq (.rs 1 0) c _) rfl rfl (by decide +kernel) ?_
  refine wp_end c ?_; rintro ⟨_, _, _⟩
  -- part 40
  refine wp_then c ?_; rw [k0_part40_eq_skeleton]; delta k0_part40_skel
  refine step_rcv I K c 29 (.pl 2 2) rfl rfl (by decide +kernel) ?_
  refine step_load I K c 30 (.xg 2 1) (xbV I (sh 2 1 c)) (mem_xg c 2 1 (off6_eq c 2 0)) rfl (by decide +kernel) ?_
  refine step_q I K c 30 ?_
  refine step_k I K c 30 ?_
  refine step_v I K c 30 ?_
  refine wp_end_at c ?_
  -- part 41
  refine wp_then c ?_; rw [k0_part41_eq_skeleton]; delta k0_part41_skel
  refine wp_end_at c ?_
  -- part 42
  refine wp_then c ?_; rw [k0_part42_eq_skeleton]; delta k0_part42_skel
  refine wp_end_at c ?_
  -- part 43
  refine wp_then c ?_; rw [k0_part43_eq_skeleton]; delta k0_part43_skel
  refine step_o I K c 30 ?_
  refine step_load_any I K c 30 (.pt 2 0) (hsq := squeezes_S1x1x256x1024_S256x1024) rfl (by decide +kernel) fun _ => ?_
  refine step_st I K c 30 (.pt 2 0) (hsq := squeezes_S1x1x256x1024_S256x1024) rfl rfl (by decide +kernel) ?_
  refine wp_end c ?_; rintro _
  -- part 44
  refine wp_then c ?_; rw [k0_part44_eq_skeleton]; delta k0_part44_skel
  refine step_send I K c 31 (.rs 2 0) rfl rfl (dev_eq (.rs 2 0) c _) rfl rfl (by decide +kernel) ?_
  refine wp_end c ?_; rintro _
  -- part 45
  refine wp_then c ?_; rw [k0_part45_eq_skeleton]; delta k0_part45_skel
  refine step_rcv I K c 32 (.pl 3 2) rfl rfl (by decide +kernel) ?_
  refine step_load I K c 33 (.xg 3 1) (xbV I (sh 3 1 c)) (mem_xg c 3 1 (off6_eq c 3 0)) rfl (by decide +kernel) ?_
  refine step_q I K c 33 ?_
  refine step_k I K c 33 ?_
  refine step_v I K c 33 ?_
  refine wp_end_at c ?_
  -- part 46
  refine wp_then c ?_; rw [k0_part46_eq_skeleton]; delta k0_part46_skel
  refine wp_end_at c ?_
  -- part 47
  refine wp_then c ?_; rw [k0_part47_eq_skeleton]; delta k0_part47_skel
  refine wp_end_at c ?_
  -- part 48
  refine wp_then c ?_; rw [k0_part48_eq_skeleton]; delta k0_part48_skel
  refine step_o I K c 33 ?_
  refine step_load_any I K c 33 (.pt 3 0) (hsq := squeezes_S1x1x256x1024_S256x1024) rfl (by decide +kernel) fun _ => ?_
  refine step_st I K c 33 (.pt 3 0) (hsq := squeezes_S1x1x256x1024_S256x1024) rfl rfl (by decide +kernel) ?_
  refine step_send I K c 34 (.rs 3 0) rfl rfl (dev_eq (.rs 3 0) c _) rfl rfl (by decide +kernel) ?_
  refine wp_end c ?_; rintro ⟨_, _, _, _, _, _⟩
  -- part 49
  refine wp_then c ?_; rw [k0_part49_eq_skeleton]; delta k0_part49_skel
  refine wp_end c ?_; rintro ⟨_, _⟩
  -- part 50
  refine wp_then c ?_; rw [k0_part50_eq_skeleton]; delta k0_part50_skel
  refine step_rcv I K c 35 (.pl 0 1) rfl rfl (by decide +kernel) ?_
  refine step_load I K c 36 (.xg 0 2) (xbV I (sh 0 2 c)) (mem_xg c 0 2 (off6_eq c 0 1)) rfl (by decide +kernel) ?_
  refine step_q I K c 36 ?_
  refine step_k I K c 36 ?_
  refine step_v I K c 36 ?_
  refine wp_end_at c ?_
  -- part 51
  refine wp_then c ?_; rw [k0_part51_eq_skeleton]; delta k0_part51_skel
  refine wp_end_at c ?_
  -- part 52
  refine wp_then c ?_; rw [k0_part52_eq_skeleton]; delta k0_part52_skel
  refine wp_end_at c ?_
  -- part 53
  refine wp_then c ?_; rw [k0_part53_eq_skeleton]; delta k0_part53_skel
  refine step_o I K c 36 ?_
  refine step_load_any I K c 36 (.pt 0 1) (hsq := squeezes_S1x1x256x1024_S256x1024) rfl (by decide +kernel) fun _ => ?_
  refine step_st I K c 36 (.pt 0 1) (hsq := squeezes_S1x1x256x1024_S256x1024) rfl rfl (by decide +kernel) ?_
  refine step_send I K c 37 (.rs 0 1) rfl rfl (dev_eq (.rs 0 1) c _) rfl rfl (by decide +kernel) ?_
  refine wp_end c ?_; rintro _
  -- part 54
  refine wp_then c ?_; rw [k0_part54_eq_skeleton]; delta k0_part54_skel
  refine step_rcv I K c 38 (.pl 1 1) rfl rfl (by decide +kernel) ?_
  refine step_load I K c 39 (.xg 1 2) (xbV I (sh 1 2 c)) (mem_xg c 1 2 (off6_eq c 1 1)) rfl (by decide +kernel) ?_
  refine step_q I K c 39 ?_
  refine step_k I K c 39 ?_
  refine wp_end_at c ?_
  -- part 55
  refine wp_then c ?_; rw [k0_part55_eq_skeleton]; delta k0_part55_skel
  refine step_v I K c 39 ?_
  refine wp_end_at c ?_
  -- part 56
  refine wp_then c ?_; rw [k0_part56_eq_skeleton]; delta k0_part56_skel
  refine wp_end_at c ?_
  -- part 57
  refine wp_then c ?_; rw [k0_part57_eq_skeleton]; delta k0_part57_skel
  refine step_o I K c 39 ?_
  refine step_load_any I K c 39 (.pt 1 1) (hsq := squeezes_S1x1x256x1024_S256x1024) rfl (by decide +kernel) fun _ => ?_
  refine step_st I K c 39 (.pt 1 1) (hsq := squeezes_S1x1x256x1024_S256x1024) rfl rfl (by decide +kernel) ?_
  refine wp_end c ?_; rintro ⟨_, _⟩
  -- part 58
  refine wp_then c ?_; rw [k0_part58_eq_skeleton]; delta k0_part58_skel
  refine step_send I K c 40 (.rs 1 1) rfl rfl (dev_eq (.rs 1 1) c _) rfl rfl (by decide +kernel) ?_
  refine wp_end c ?_; rintro ⟨_, _⟩
  -- part 59
  refine wp_then c ?_; rw [k0_part59_eq_skeleton]; delta k0_part59_skel
  refine step_rcv I K c 41 (.pl 2 1) rfl rfl (by decide +kernel) ?_
  refine step_load I K c 42 (.xg 2 2) (xbV I (sh 2 2 c)) (mem_xg c 2 2 (off6_eq c 2 1)) rfl (by decide +kernel) ?_
  refine step_q I K c 42 ?_
  refine step_k I K c 42 ?_
  refine step_v I K c 42 ?_
  refine wp_end_at c ?_
  -- part 60
  refine wp_then c ?_; rw [k0_part60_eq_skeleton]; delta k0_part60_skel
  refine wp_end_at c ?_
  refine wp_end_at c ?_
  refine wp_then c ?_; rw [k0_part105_eq_skeleton]; delta k0_part105_skel
  -- part 61
  refine wp_then c ?_; rw [k0_part61_eq_skeleton]; delta k0_part61_skel
  refine wp_end_at c ?_
  -- part 62
  refine wp_then c ?_; rw [k0_part62_eq_skeleton]; delta k0_part62_skel
  refine step_o I K c 42 ?_
  refine step_load_any I K c 42 (.pt 2 1) (hsq := squeezes_S1x1x256x1024_S256x1024) rfl (by decide +kernel) fun _ => ?_
  refine step_st I K c 42 (.pt 2 1) (hsq := squeezes_S1x1x256x1024_S256x1024) rfl rfl (by decide +kernel) ?_
  refine step_send I K c 43 (.rs 2 1) rfl rfl (dev_eq (.rs 2 1) c _) rfl rfl (by decide +kernel) ?_
  refine wp_end c ?_; rintro ⟨_, _, _, _⟩
  -- part 63
  refine wp_then c ?_; rw [k0_part63_eq_skeleton]; delta k0_part63_skel
  refine step_rcv I K c 44 (.pl 3 1) rfl rfl (by decide +kernel) ?_
  refine step_load I K c 45 (.xg 3 2) (xbV I (sh 3 2 c)) (mem_xg c 3 2 (off6_eq c 3 1)) rfl (by decide +kernel) ?_
  refine step_q I K c 45 ?_
  refine wp_end_at c ?_
  -- part 64
  refine wp_then c ?_; rw [k0_part64_eq_skeleton]; delta k0_part64_skel
  refine step_k I K c 45 ?_
  refine step_v I K c 45 ?_
  refine wp_end_at c ?_
  -- part 65
  refine wp_then c ?_; rw [k0_part65_eq_skeleton]; delta k0_part65_skel
  refine wp_end_at c ?_
  -- part 66
  refine wp_then c ?_; rw [k0_part66_eq_skeleton]; delta k0_part66_skel
  refine step_o I K c 45 ?_
  refine step_load_any I K c 45 (.pt 3 1) (hsq := squeezes_S1x1x256x1024_S256x1024) rfl (by decide +kernel) fun _ => ?_
  refine step_st I K c 45 (.pt 3 1) (hsq := squeezes_S1x1x256x1024_S256x1024) rfl rfl (by decide +kernel) ?_
  refine wp_end c ?_; rintro _
  -- part 67
  refine wp_then c ?_; rw [k0_part67_eq_skeleton]; delta k0_part67_skel
  refine step_send I K c 46 (.rs 3 1) rfl rfl (dev_eq (.rs 3 1) c _) rfl rfl (by decide +kernel) ?_
  refine wp_end c ?_; rintro ⟨_, _, _, _, _⟩
  -- part 68
  refine wp_then c ?_; rw [k0_part68_eq_skeleton]; delta k0_part68_skel
  refine step_rcv I K c 47 (.pl 0 0) rfl rfl (by decide +kernel) ?_
  refine step_load I K c 48 (.xg 0 3) (xbV I (sh 0 3 c)) (mem_xg c 0 3 (off6_eq c 0 2)) rfl (by decide +kernel) ?_
  refine step_q I K c 48 ?_
  refine wp_end_at c ?_
  -- part 69
  refine wp_then c ?_; rw [k0_part69_eq_skeleton]; delta k0_part69_skel
  refine step_k I K c 48 ?_
  refine step_v I K c 48 ?_
  refine wp_end_at c ?_
  -- part 70
  refine wp_then c ?_; rw [k0_part70_eq_skeleton]; delta k0_part70_skel
  refine wp_end_at c ?_
  -- part 71
  refine wp_then c ?_; rw [k0_part71_eq_skeleton]; delta k0_part71_skel
  refine step_o I K c 48 ?_
  refine step_load_any I K c 48 (.pt 0 2) (hsq := squeezes_S1x1x256x1024_S256x1024) rfl (by decide +kernel) fun _ => ?_
  refine step_st I K c 48 (.pt 0 2) (hsq := squeezes_S1x1x256x1024_S256x1024) rfl rfl (by decide +kernel) ?_
  refine wp_end c ?_; rintro _
  -- part 72
  refine wp_then c ?_; rw [k0_part72_eq_skeleton]; delta k0_part72_skel
  refine step_send I K c 49 (.rs 0 2) rfl rfl (dev_eq (.rs 0 2) c _) rfl rfl (by decide +kernel) ?_
  refine wp_end c ?_; rintro _
  -- part 73
  refine wp_then c ?_; rw [k0_part73_eq_skeleton]; delta k0_part73_skel
  refine step_rcv I K c 50 (.pl 1 0) rfl rfl (by decide +kernel) ?_
  refine step_load I K c 51 (.xg 1 3) (xbV I (sh 1 3 c)) (mem_xg c 1 3 (off6_eq c 1 2)) rfl (by decide +kernel) ?_
  refine step_q I K c 51 ?_
  refine step_k I K c 51 ?_
  refine step_v I K c 51 ?_
  refine wp_end_at c ?_
  -- part 74
  refine wp_then c ?_; rw [k0_part74_eq_skeleton]; delta k0_part74_skel
  refine wp_end_at c ?_
  -- part 75
  refine wp_then c ?_; rw [k0_part75_eq_skeleton]; delta k0_part75_skel
  refine wp_end_at c ?_
  -- part 76
  refine wp_then c ?_; rw [k0_part76_eq_skeleton]; delta k0_part76_skel
  refine step_o I K c 51 ?_
  refine step_load_any I K c 51 (.pt 1 2) (hsq := squeezes_S1x1x256x1024_S256x1024) rfl (by decide +kernel) fun _ => ?_
  refine step_st I K c 51 (.pt 1 2) (hsq := squeezes_S1x1x256x1024_S256x1024) rfl rfl (by decide +kernel) ?_
  refine step_send I K c 52 (.rs 1 2) rfl rfl (dev_eq (.rs 1 2) c _) rfl rfl (by decide +kernel) ?_
  refine wp_end c ?_; rintro ⟨_, _⟩
  -- part 77
  refine wp_then c ?_; rw [k0_part77_eq_skeleton]; delta k0_part77_skel
  refine step_rcv I K c 53 (.pl 2 0) rfl rfl (by decide +kernel) ?_
  refine step_load I K c 54 (.xg 2 3) (xbV I (sh 2 3 c)) (mem_xg c 2 3 (off6_eq c 2 2)) rfl (by decide +kernel) ?_
  refine step_q I K c 54 ?_
  refine wp_end_at c ?_
  -- part 78
  refine wp_then c ?_; rw [k0_part78_eq_skeleton]; delta k0_part78_skel
  refine step_k I K c 54 ?_
  refine step_v I K c 54 ?_
  refine wp_end_at c ?_
  -- part 79
  refine wp_then c ?_; rw [k0_part79_eq_skeleton]; delta k0_part79_skel
  refine wp_end_at c ?_
  -- part 80
  refine wp_then c ?_; rw [k0_part80_eq_skeleton]; delta k0_part80_skel
  refine step_o I K c 54 ?_
  refine step_load_any I K c 54 (.pt 2 2) (hsq := squeezes_S1x1x256x1024_S256x1024) rfl (by decide +kernel) fun _ => ?_
  refine wp_end_at c ?_
  -- part 81
  refine wp_then c ?_; rw [k0_part81_eq_skeleton]; delta k0_part81_skel
  refine step_st I K c 54 (.pt 2 2) (hsq := squeezes_S1x1x256x1024_S256x1024) rfl rfl (by decide +kernel) ?_
  refine step_send I K c 55 (.rs 2 2) rfl rfl (dev_eq (.rs 2 2) c _) rfl rfl (by decide +kernel) ?_
  refine wp_end c ?_; rintro ⟨_, _, _, _, _⟩
  -- part 82
  refine wp_then c ?_; rw [k0_part82_eq_skeleton]; delta k0_part82_skel
  refine step_rcv I K c 56 (.pl 3 0) rfl rfl (by decide +kernel) ?_
  refine step_load I K c 57 (.xg 3 3) (xbV I (sh 3 3 c)) (mem_xg c 3 3 (off6_eq c 3 2)) rfl (by decide +kernel) ?_
  refine step_q I K c 57 ?_
  refine step_k I K c 57 ?_
  refine step_v I K c 57 ?_
  refine wp_end_at c ?_
  -- part 83
  refine wp_then c ?_; rw [k0_part83_eq_skeleton]; delta k0_part83_skel
  refine wp_end_at c ?_
  -- part 84
  refine wp_then c ?_; rw [k0_part84_eq_skeleton]; delta k0_part84_skel
  refine wp_end_at c ?_
  -- part 85
  refine wp_then c ?_; rw [k0_part85_eq_skeleton]; delta k0_part85_skel
  refine step_o I K c 57 ?_
  refine step_load_any I K c 57 (.pt 3 2) (hsq := squeezes_S1x1x256x1024_S256x1024) rfl (by decide +kernel) fun _ => ?_
  refine step_st I K c 57 (.pt 3 2) (hsq := squeezes_S1x1x256x1024_S256x1024) rfl rfl (by decide +kernel) ?_
  refine wp_end c ?_; rintro _
  -- part 86
  refine wp_then c ?_; rw [k0_part86_eq_skeleton]; delta k0_part86_skel
  refine step_send I K c 58 (.rs 3 2) rfl rfl (dev_eq (.rs 3 2) c _) rfl rfl (by decide +kernel) ?_
  refine step_ps_load I K c 59 1 _ rfl (psA_share I c (by decide +kernel)) ?_
  refine step_rcv I K c 59 (.rs 1 0) rfl rfl (by decide +kernel) ?_
  refine step_load I K c 60 (.rp 1 2) (hsq := squeezes_S1x1x256x1024_S256x1024) (ptV I (sh 0 3 c) (sh 1 0 c)) rfl rfl (by decide +kernel) ?_
  refine step_rcv I K c 60 (.rs 1 1) rfl rfl (by decide +kernel) ?_
  refine step_load I K c 61 (.rp 1 1) (hsq := squeezes_S1x1x256x1024_S256x1024) (ptV I (sh 0 2 c) (sh 1 0 c)) rfl rfl (by decide +kernel) ?_
  refine wp_end_at c ?_
  -- part 87
  refine wp_then c ?_; rw [k0_part87_eq_skeleton]; delta k0_part87_skel
  refine step_rcv I K c 61 (.rs 1 2) rfl rfl (by decide +kernel) ?_
  refine step_load I K c 62 (.rp 1 0) (hsq := squeezes_S1x1x256x1024_S256x1024) (ptV I (sh 0 1 c) (sh 1 0 c)) rfl rfl (by decide +kernel) ?_
  refine step_load_any I K c 62 (.zs 0) (hsq := squeezes_S1x256x1024_S256x1024) rfl (by decide +kernel) fun _ => ?_
  refine step_st I K c 62 (.zs 0) (hsq := squeezes_S1x256x1024_S256x1024) rfl rfl (by decide +kernel) ?_
  refine wp_end c ?_; rintro _
  -- part 88
  refine wp_then c ?_; rw [k0_part88_eq_skeleton]; delta k0_part88_skel
  refine step_send I K c 63 (.rz 0) rfl rfl (dev_eq (.rz 0) c _) rfl rfl (by decide +kernel) ?_
  refine step_ps_load I K c 64 2 _ rfl (psA_share I c (by decide +kernel)) ?_
  refine step_rcv I K c 64 (.rs 2 0) rfl rfl (by decide +kernel) ?_
  refine step_load I K c 65 (.rp 2 2) (hsq := squeezes_S1x1x256x1024_S256x1024) (ptV I (sh 0 3 c) (sh 2 0 c)) rfl rfl (by decide +kernel) ?_
  refine wp_end_at c ?_
  -- part 89
  refine wp_then c ?_; rw [k0_part89_eq_skeleton]; delta k0_part89_skel
  refine step_rcv I K c 65 (.rs 2 1) rfl rfl (by decide +kernel) ?_
  refine step_load I K c 66 (.rp 2 1) (hsq := squeezes_S1x1x256x1024_S256x1024) (ptV I (sh 0 2 c) (sh 2 0 c)) rfl rfl (by decide +kernel) ?_
  refine step_rcv I K c 66 (.rs 2 2) rfl rfl (by decide +kernel) ?_
  refine step_load I K c 67 (.rp 2 0) (hsq := squeezes_S1x1x256x1024_S256x1024) (ptV I (sh 0 1 c) (sh 2 0 c)) rfl rfl (by decide +kernel) ?_
  refine step_load_any I K c 67 (.zs 1) (hsq := squeezes_S1x256x1024_S256x1024) rfl (by decide +kernel) fun _ => ?_
  refine step_st I K c 67 (.zs 1) (hsq := squeezes_S1x256x1024_S256x1024) rfl rfl (by decide +kernel) ?_
  refine wp_end c ?_; rintro ⟨_, _⟩
  -- part 90
  refine wp_then c ?_; rw [k0_part90_eq_skeleton]; delta k0_part90_skel
  refine step_send I K c 68 (.rz 1) rfl rfl (dev_eq (.rz 1) c _) rfl rfl (by decide +kernel) ?_
  refine step_ps_load I K c 69 3 _ rfl (psA_share I c (by decide +kernel)) ?_
  refine wp_end_at c ?_
  -- part 91
  refine wp_then c ?_; rw [k0_part91_eq_skeleton]; delta k0_part91_skel
  refine step_rcv I K c 69 (.rs 3 0) rfl rfl (by decide +kernel) ?_
  refine step_load I K c 70 (.rp 3 2) (hsq := squeezes_S1x1x256x1024_S256x1024) (ptV I (sh 0 3 c) (sh 3 0 c)) rfl rfl (by decide +kernel) ?_
  refine step_rcv I K c 70 (.rs 3 1) rfl rfl (by decide +kernel) ?_
  refine step_load I K c 71 (.rp 3 1) (hsq := squeezes_S1x1x256x1024_S256x1024) (ptV I (sh 0 2 c) (sh 3 0 c)) rfl rfl (by decide +kernel) ?_
  refine step_rcv I K c 71 (.rs 3 2) rfl rfl (by decide +kernel) ?_
  refine wp_end_at c ?_
  -- part 92
  refine wp_then c ?_; rw [k0_part92_eq_skeleton]; delta k0_part92_skel
  refine step_load I K c 72 (.rp 3 0) (hsq := squeezes_S1x1x256x1024_S256x1024) (ptV I (sh 0 1 c) (sh 3 0 c)) rfl rfl (by decide +kernel) ?_
  refine step_load_any I K c 72 (.zs 2) (hsq := squeezes_S1x256x1024_S256x1024) rfl (by decide +kernel) fun _ => ?_
  refine step_st I K c 72 (.zs 2) (hsq := squeezes_S1x256x1024_S256x1024) rfl rfl (by decide +kernel) ?_
  refine step_send I K c 73 (.rz 2) rfl rfl (dev_eq (.rz 2) c _) rfl rfl (by decide +kernel) ?_
  refine wp_end c ?_; rintro _
  -- part 93
  refine wp_then c ?_; rw [k0_part93_eq_skeleton]; delta k0_part93_skel
  refine step_ps_load I K c 74 0 _ rfl (psA_share I c (by decide +kernel)) ?_
  refine step_rcv I K c 74 (.rs 0 0) rfl rfl (by decide +kernel) ?_
  refine step_load I K c 75 (.rp 0 2) (hsq := squeezes_S1x1x256x1024_S256x1024) (ptV I (sh 0 3 c) (sh 0 0 c)) rfl rfl (by decide +kernel) ?_
  refine step_rcv I K c 75 (.rs 0 1) rfl rfl (by decide +kernel) ?_
  refine step_load I K c 76 (.rp 0 1) (hsq := squeezes_S1x1x256x1024_S256x1024) (ptV I (sh 0 2 c) (sh 0 0 c)) rfl rfl (by decide +kernel) ?_
  refine wp_end_at c ?_
  -- part 94
  refine wp_then c ?_; rw [k0_part94_eq_skeleton]; delta k0_part94_skel
  refine step_rcv I K c 76 (.rs 0 2) rfl rfl (by decide +kernel) ?_
  refine step_load I K c 77 (.rp 0 0) (hsq := squeezes_S1x1x256x1024_S256x1024) (ptV I (sh 0 1 c) (sh 0 0 c)) rfl rfl (by decide +kernel) ?_
  refine step_ps_any I K c 77 0 rfl (by decide +kernel) fun _ => ?_
  refine step_ac I K c 77 rfl rfl (by decide +kernel) ?_
  refine step_ps_load I K c 78 0 _ rfl (psA_row I c (by decide +kernel)) ?_
  refine step_rcv I K c 78 (.rz 0) rfl rfl (by decide +kernel) ?_
  refine wp_end_at c ?_
  -- part 95
  refine wp_then c ?_; rw [k0_part95_eq_skeleton]; delta k0_part95_skel
  refine step_load I K c 79 (.zr 2) (hsq := squeezes_S1x256x1024_S256x1024) (zsV I 1 (sh 3 0 c)) rfl rfl (by decide +kernel) ?_
  refine step_rcv I K c 79 (.rz 1) rfl rfl (by decide +kernel) ?_
  refine step_load I K c 80 (.zr 1) (hsq := squeezes_S1x256x1024_S256x1024) (zsV I 2 (sh 2 0 c)) rfl rfl (by decide +kernel) ?_
  refine step_rcv I K c 80 (.rz 2) rfl rfl (by decide +kernel) ?_
  refine step_load I K c 81 (.zr 0) (hsq := squeezes_S1x256x1024_S256x1024) (zsV I 3 (sh 1 0 c)) rfl rfl (by decide +kernel) ?_
  refine step_out_any I K c 81 fun _ => ?_
  refine wp_end_at c ?_
  -- part 96
  refine wp_then c ?_; rw [k0_part96_eq_skeleton]; delta k0_part96_skel
  refine step_out I K c 81 (by decide) rfl (by decide +kernel) ?_
  refine step_wt I K c 82 (.col 0) rfl rfl (by decide +kernel) ?_
  refine step_wt I K c 83 (.col 1) rfl rfl (by decide +kernel) ?_
  refine step_wt I K c 84 (.col 2) rfl rfl (by decide +kernel) ?_
  refine step_wt I K c 85 (.pl 0 0) rfl rfl (by decide +kernel) ?_
  refine wp_end c ?_; rintro _
  -- part 97
  refine wp_then c ?_; rw [k0_part97_eq_skeleton]; delta k0_part97_skel
  refine step_wt I K c 86 (.rs 0 0) rfl rfl (by decide +kernel) ?_
  refine step_wt I K c 87 (.pl 0 1) rfl rfl (by decide +kernel) ?_
  refine step_wt I K c 88 (.rs 0 1) rfl rfl (by decide +kernel) ?_
  refine wp_end c ?_; rintro _
  -- part 98
  refine wp_then c ?_; rw [k0_part98_eq_skeleton]; delta k0_part98_skel
  refine step_wt I K c 89 (.pl 0 2) rfl rfl (by decide +kernel) ?_
  refine step_wt I K c 90 (.rs 0 2) rfl rfl (by decide +kernel) ?_
  refine step_wt I K c 91 (.pl 1 0) rfl rfl (by decide +kernel) ?_
  refine wp_end c ?_; rintro _
  -- part 99
  refine wp_then c ?_; rw [k0_part99_eq_skeleton]; delta k0_part99_skel
  refine step_wt I K c 92 (.rs 1 0) rfl rfl (by decide +kernel) ?_
  refine step_wt I K c 93 (.pl 1 1) rfl rfl (by decide +kernel) ?_
  refine step_wt I K c 94 (.rs 1 1) rfl rfl (by decide +kernel) ?_
  refine step_wt I K c 95 (.pl 1 2) rfl rfl (by decide +kernel) ?_
  refine wp_end c ?_; rintro _
  -- part 100
  refine wp_then c ?_; rw [k0_part100_eq_skeleton]; delta k0_part100_skel
  refine step_wt I K c 96 (.rs 1 2) rfl rfl (by decide +kernel) ?_
  refine step_wt I K c 97 (.pl 2 0) rfl rfl (by decide +kernel) ?_
  refine step_wt I K c 98 (.rs 2 0) rfl rfl (by decide +kernel) ?_
  refine wp_end c ?_; rintro _
  -- part 101
  refine wp_then c ?_; rw [k0_part101_eq_skeleton]; delta k0_part101_skel
  refine step_wt I K c 99 (.pl 2 1) rfl rfl (by decide +kernel) ?_
  refine step_wt I K c 100 (.rs 2 1) rfl rfl (by decide +kernel) ?_
  refine step_wt I K c 101 (.pl 2 2) rfl rfl (by decide +kernel) ?_
  refine wp_end c ?_; rintro _
  -- part 102
  refine wp_then c ?_; rw [k0_part102_eq_skeleton]; delta k0_part102_skel
  refine step_wt I K c 102 (.rs 2 2) rfl rfl (by decide +kernel) ?_
  refine step_wt I K c 103 (.pl 3 0) rfl rfl (by decide +kernel) ?_
  refine step_wt I K c 104 (.rs 3 0) rfl rfl (by decide +kernel) ?_
  refine step_wt I K c 105 (.pl 3 1) rfl rfl (by decide +kernel) ?_
  refine wp_end c ?_; rintro _
  -- part 103
  refine wp_then c ?_; rw [k0_part103_eq_skeleton]; delta k0_part103_skel
  refine step_wt I K c 106 (.rs 3 1) rfl rfl (by decide +kernel) ?_
  refine step_wt I K c 107 (.pl 3 2) rfl rfl (by decide +kernel) ?_
  refine step_wt I K c 108 (.rs 3 2) rfl rfl (by decide +kernel) ?_
  refine wp_end c ?_; rintro _
  refine step_wt I K c 109 (.rz 0) rfl rfl (by decide +kernel) ?_
  refine wp_end c ?_; rintro _
  refine step_wt I K c 110 (.rz 1) rfl rfl (by decide +kernel) ?_
  refine step_wt I K c 111 (.rz 2) rfl rfl (by decide +kernel) ?_
  exact wp_end c fun _ => h

end Cert.Mha
-- ==== Proof.Launch.lean ====
/-
The kernel's run: the pipeline's proof data, the body's obligation, and the launch, for any float values.
-/
module

public import proofs.«01_k».proof.Proof.Ghost
public import proofs.«01_k».proof.Proof.Body
public import proofs.«01_k».proof.Proof.Gen.KernelIdeal.Points
public import proofs.«01_k».proof.Proof.Gen.KernelIdeal.Frame
public import Idealize.ShloMosaic.Lib.Pipeline.CollectiveSegs

@[expose] public section

noncomputable section

namespace Cert.Mha

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

/-- The inputs as staged. -/
def insOf : Ins F where
  x c := iblk m c 0 t0_0
  q c := iblk m c 1 t0_0
  k c := iblk m c 2 t0_0
  v c := iblk m c 3 t0_0
  o c := iblk m c 4 t0_0

def start (c : Dev nD) : sProp 𝕄 :=
  iprop(G' (insOf m) c ∗ (cred (tallyAt (barCell c) () 6) ∗ bigSep Finset.univ fun i : Snd => cred (tallyAt (recvCell i c) () N)) ∗ levAts L lv)
/-- Before the body, and after it. -/
def Φ₀ (c : Dev nD) : sProp 𝕄 := iprop(start m c ∗ scratchA c)
def Φ₁ (c : Dev nD) : sProp 𝕄 := iprop(scratchA c ∗ semsA c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).q c
    | ⟨2, _⟩ => (insOf m).k c
    | ⟨3, _⟩ => (insOf m).v c
    | ⟨4, _⟩ => (insOf m).o c
    | ⟨5, _⟩ => outV (insOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

set_option maxRecDepth 4000 in
def bodyPost (c : Dev nD) : sProp 𝕄 :=
  iprop(Φ₁ c ∗ (dats m ρ 0 c).owesAt () t0_0.succ
    ∗ stg c cc0_stg0_0 ((insOf m).x c) ∗ stg c cc0_stg1_0 ((insOf m).q c) ∗ stg c cc0_stg2_0 ((insOf m).k c) ∗ stg c cc0_stg3_0 ((insOf m).v c)
    ∗ stg c cc0_stg4_0 ((insOf m).o c) ∗ stg c cc0_stg5_0 (outV (insOf m) c))

theorem before_0 (c : Dev nD) (d) : (dats m ρ 0 c).before (0 : Fin 6) t0_0 d = (insOf m).x c := by unfold Dat.before; rw [if_pos (fetch0_0 t0_0)]; rfl
theorem before_1 (c : Dev nD) (d) : (dats m ρ 0 c).before (1 : Fin 6) t0_0 d = (insOf m).q c := by unfold Dat.before; rw [if_pos (fetch0_1 t0_0)]; rfl
theorem before_2 (c : Dev nD) (d) : (dats m ρ 0 c).before (2 : Fin 6) t0_0 d = (insOf m).k c := by unfold Dat.before; rw [if_pos (fetch0_2 t0_0)]; rfl
theorem before_3 (c : Dev nD) (d) : (dats m ρ 0 c).before (3 : Fin 6) t0_0 d = (insOf m).v c := by unfold Dat.before; rw [if_pos (fetch0_3 t0_0)]; rfl
theorem before_4 (c : Dev nD) (d) : (dats m ρ 0 c).before (4 : Fin 6) t0_0 d = (insOf m).o c := by unfold Dat.before; rw [if_pos (fetch0_4 t0_0)]; rfl

/-- The state the pipeline hands the body is the run's first. -/
theorem pre_AB (c : Dev nD) : bodyPre m ρ c ⊢ (iprop(∃ K, AB (insOf m) K c 0) : sProp 𝕄) := by
  unfold bodyPre Φ₀ start G' Dat.owesAt Pipeline.owesWithin
  rw [show (dats m ρ 0 c).owed t0_0.castSucc = O₀ c from rfl]
  unfold ats payToks
  rw [cels_eq]
  iintro ⟨⟨⟨⟨%K, #Hrec, ⟨⟨Hab, Has, Har⟩, Hoff⟩, Htb, Hts, Htr⟩, ⟨Hcb, Hcr⟩, #Hlev⟩, Hscr⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  rw [before_0] at h0
  rw [before_1] at h1
  rw [before_2] at h2
  rw [before_3] at h3
  rw [before_4] at h4
  subst h0 h1 h2 h3 h4
  iexists K
  iapply (AB_intro (insOf m) K c)
  unfold facts insA
  isplitr
  · isplitr; · iexact Hrec
    iexact Hlev
  isplitl [HO]; · iexists W; iexact HO
  isplitl [Htb]; · iexact Htb
  isplitl [Hcb]; · iexact Hcb
  isplitl [Hab]; · iexact Hab
  isplitl [Hts Htr Has]
  · iapply (Entails.of_eq (show (iprop((bigSep Finset.univ fun i : Snd => dutyTok ER (sendCell i c) 0 0) ∗ (bigSep Finset.univ fun i : Snd => dutyTok ER (recvCell i (tgt i c)) 0 0)
        ∗ bigSep Finset.univ fun i : Snd => atPos ER (sendCell i c) 0 ∅ 0) : sProp 𝕄) = bigSep Finset.univ (sndB c) from by
      rw [← bigSep_sep', ← bigSep_sep']; rfl))
    isplitl [Hts]; · iexact Hts
    isplitl [Htr]; · iexact Htr
    iexact Has
  isplitl [Hcr]; · iexact Hcr
  isplitl [Har]; · iexact Har
  isplitl [Hscr]; · iexact Hscr
  isplitl [H5]; · iexists g5; iexact H5
  isplitr [Hoff]
  · isplitl [H0]; · iexact H0
    isplitl [H1]; · iexact H1
    isplitl [H2]; · iexact H2
    isplitl [H3]; · iexact H3
    iexact H4
  · iexact Hoff

/-- The run's last state is the one the pipeline expects. -/
theorem AA_post (K : Dev nD → Cel → ℕ) (c : Dev nD) : AA (insOf m) K c 112 ⊢ (|={Set.univ}=> bodyPost m ρ c : sProp 𝕄) := by
  refine (AA_exit (insOf m) K c).trans (BI.fupd_mono ?_)
  unfold bodyPost Φ₁ Dat.owesAt Pipeline.owesWithin insA
  rw [show (dats m ρ 0 c).owed t0_0.succ = 0 from rfl]
  iintro ⟨⟨%W, HO⟩, Hscr, H5, ⟨H0, H1, H2, H3, H4⟩, Hsem⟩
  isplitl [Hscr Hsem]
  · isplitl [Hscr] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) (fun _ => bodyPost m ρ c)
  refine (pre_AB m ρ c).trans ?_
  iintro ⟨%K, H⟩
  iapply (wp_fupd frame (wpE (defs₀ (F := F)) 𝒱₀ (c : Thread nD τ) none) Set.univ _ (fun _ => bodyPost m ρ c))
  iapply (body_run (insOf m) K c (Q := fun _ => iprop(|={Set.univ}=> bodyPost m ρ c)) (AA_post m ρ K c))
  iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  rw [← sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) allSnd (dirs 0)
    · exact mayWait_stage c _ (by fin_cases w <;> fin_cases s <;> decide) [] []

set_option maxRecDepth 40000 in
/-- Every weakly fair run of the sixteen devices' kernels ends, with every window's array at its computed contents and
    every semaphore at zero. -/
theorem run_main : θ_run defs (onTc (τ := τ) (main (F := F))) (s₀ m ρ) (fun r =>
    (∀ (c : Dev nD) (w : Fin cfg0.W), r.2.mem ((cfg0.win w).arr.view.loc (c : Thread nD τ)) = (dats m ρ 0 c).arrAt w cfg0.N) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      imod (fund_all (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mha

end
-- ==== Proof.Frames.lean ====
/-
The frames: from the kernel's run, of the idealized program and of the printed one, whose text is the same but for the
named constant; and of the reference.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Mha

open Cert.KernelIdeal Cert.KernelIdeal.Gen

open Idealize.ShloMosaic
open Idealize.ShloMosaic.TcCoe
open Idealize.SL.Sem

section
variable {F : FTy → Type} [FloatOps F] [Named F]
variable (m : (ℓ : Loc nD τ sig) → Buf (Elt F) ℓ) (ρ : Dev nD → PrngReg)

/-- The run's post in the claims' words: the result, the arguments unchanged, the semaphores at zero. -/
theorem run_post : θ_run defs (onTc (τ := τ) (main (F := F))) ⟨m, fun _ => 0, ρ⟩ (fun r =>
    (∀ c : Dev nD, r.2.mem ((c.tc : Thread nD τ).loc main_v1) = (dats m ρ 0 c).arrAt (5 : Fin 6) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨h.1 c (5 : Fin 6),
    (h.1 c (0 : Fin 6)).trans ((dats m ρ 0 c).arrAt_in (0 : Fin 6) rfl _), (h.1 c (1 : Fin 6)).trans ((dats m ρ 0 c).arrAt_in (1 : Fin 6) rfl _),
    (h.1 c (2 : Fin 6)).trans ((dats m ρ 0 c).arrAt_in (2 : Fin 6) rfl _), (h.1 c (3 : Fin 6)).trans ((dats m ρ 0 c).arrAt_in (3 : Fin 6) rfl _),
    (h.1 c (4 : Fin 6)).trans ((dats m ρ 0 c).arrAt_in (4 : Fin 6) rfl _)⟩, h.2⟩) (run_main m ρ)

end

theorem frame_ideal : Cert.quiescent_KernelIdeal := fun m ρ _ =>
  (θ_run Cert.KernelIdeal.defs _ _).mono (fun _ h => ⟨fun c => (h.1 c).2, h.2⟩) (run_post (F := Ideal) m ρ)

/-- On bits the named constant is the literal printed. -/
instance namedBits : Named Bits where
  named _ _ {φ} b := Scalar.ofBits φ b

/-- The kernel's body on bits is the idealized program's: the same text, the constant read at its literal. -/
theorem body_eq : Cert.Kernel.cc0__body (F := Bits) = Cert.KernelIdeal.cc0__body (F := Bits) := rfl

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    rw [body_eq]

theorem defs_eq : Cert.Kernel.defs (F := Bits) = Cert.KernelIdeal.defs (F := Bits) := by
  unfold Cert.Kernel.defs Cert.KernelIdeal.defs
  rw [defs₀_eq]
  rfl

theorem frame_kernel : Cert.quiescent_Kernel := by
  intro m ρ _
  have h := (θ_run Cert.KernelIdeal.defs _ _).mono (fun _ h => (⟨fun c => (h.1 c).2, h.2⟩ : _ ∧ _)) (run_post (F := Bits) m ρ)
  rw [defs_eq]
  exact h

/-- The reference's run leaves its arguments, and its signature has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one literal named, at its constant. -/
theorem preserves_kernel : Cert.preserves_Kernel_KernelIdeal :=
  IdealRules.named_const.statement Cert.KernelIdeal.κ "scale" .bf16 0x3DB5#16 (((Real.sqrt 128)⁻¹ : ℝ) : EReal) rfl

end Cert.Mha

end
-- ==== Proof.KerVal.lean ====
/-
The kernel's values at an index, over the extended reals.
-/
module

public import proofs.«01_k».proof.Proof.Values
public import Idealize.ShloMosaic.Lib.Pointwise

@[expose] public section

set_option maxRecDepth 16384

noncomputable section

namespace Cert.Mha

open Cert.KernelIdeal Cert.KernelIdeal.Gen

open Idealize.ShloMosaic
open scoped BigOperators

/-- The scale of the scores. -/
def scl : EReal := (((Real.sqrt 128)⁻¹ : ℝ) : EReal)

theorem named_scale : (Named.named (F := Ideal) κ "scale" 0x3DB5#16 : Ideal .bf16) = scl := rfl

/-- Column `e` of head `h` in a device's 1024. -/
def colH (h : Fin 8) (e : Fin 128) : Fin 1024 := ⟨128 * h.val + e.val, by omega⟩

theorem projV_apply (x : FVec Ideal S1x256x1024 .bf16) (w : FVec Ideal S1024x1024 .bf16) (r : Fin 256) (n : Fin 1024) :
    projV x w (ix2 r n) = ∑ k : Fin 1024, x (ix3 0 r k) * w (ix2 k n) := by
  pointwise [projV]

theorem scaleV_apply (w : FVec Ideal S1024x1024 .bf16) (k n : Fin 1024) : scaleV w (ix2 k n) = w (ix2 k n) * scl := by
  pointwise [scaleV, named_scale]

theorem expV_apply (h : Fin 8) (hs : S256x1024.Slices ![0, 128 * h.val] S256x128) (q k : FVec Ideal S256x1024 .bf16) (i j : Fin 256) :
    expV ![0, 128 * h.val] hs q k (ix2 i j) = Ideal.exp (∑ e : Fin 128, q (ix2 i (colH h e)) * k (ix2 j (colH h e))) := by
  pointwise [expV, colH]

/-- The attention of one head at row `i`, column `e`, from a device's projections. -/
def hdV (q k v : FVec Ideal S256x1024 .bf16) (h : Fin 8) (i : Fin 256) (e : Fin 128) : EReal :=
  (∑ j : Fin 256, Ideal.exp (∑ e : Fin 128, q (ix2 i (colH h e)) * k (ix2 j (colH h e))) * v (ix2 j (colH h e)))
    * Ideal.div 1 (∑ j : Fin 256, Ideal.exp (∑ e : Fin 128, q (ix2 i (colH h e)) * k (ix2 j (colH h e))))

theorem headV_apply (h : Fin 8) (hs : S256x1024.Slices ![0, 128 * h.val] S256x128) (q k v : FVec Ideal S256x1024 .bf16) (i : Fin 256) (e : Fin 128) :
    headV ![0, 128 * h.val] hs q k v (ix2 i e) = hdV q k v h i e := by
  pointwise [headV]
  simp only [expV_apply]
  rfl

/-- A column's head in its device, and its column in the head. -/
def hdOf (c : Fin 1024) : Fin 8 := ⟨c.val / 128, by omega⟩
def elOf (c : Fin 1024) : Fin 128 := ⟨c.val % 128, by omega⟩

/-- Both branches are the value. -/
theorem dite_eq_of {α : Type} {p : Prop} [Decidable p] {a : p → α} {b : ¬ p → α} {t : α} (ha : ∀ h, a h = t) (hb : ∀ h, b h = t) :
    dite p a b = t := by
  split
  · exact ha _
  · exact hb _

theorem attV_apply (q k v : FVec Ideal S256x1024 .bf16) (i : Fin 256) (c : Fin 1024) :
    attV q k v (ix2 i c) = hdV q k v (hdOf c) i (elOf c) := by
  obtain ⟨h, e, rfl⟩ : ∃ h e, c = colH h e := ⟨hdOf c, elOf c, Fin.ext (by simp only [colH, hdOf, elOf]; omega)⟩
  rw [show hdOf (colH h e) = h from Fin.ext (by simp only [colH, hdOf]; omega), show elOf (colH h e) = e from Fin.ext (by simp only [colH, elOf]; omega)]
  pointwise [attV, colH]
  have key : ∀ (l : ℕ) (hl : l < 8) (hs : S256x1024.Slices ![0, 128 * l] S256x128) (e' : Fin 128), h.val = l → e'.val = e.val →
      headV ![0, 128 * l] hs q k v (ix2 i e') = hdV q k v h i e := fun l hl hs e' h1 h2 => by
    subst h1; rw [headV_apply, Fin.ext h2]
  have he := e.isLt
  have hh := h.isLt
  refine dite_eq_of (fun c0 => key 0 (by omega) _ _ (by omega) (by show _ = _; simp only; omega)) fun c0 => ?_
  refine dite_eq_of (fun c1 => key 1 (by omega) _ _ (by omega) (by show _ = _; simp only; omega)) fun c1 => ?_
  refine dite_eq_of (fun c2 => key 2 (by omega) _ _ (by omega) (by show _ = _; simp only; omega)) fun c2 => ?_
  refine dite_eq_of (fun c3 => key 3 (by omega) _ _ (by omega) (by show _ = _; simp only; omega)) fun c3 => ?_
  refine dite_eq_of (fun c4 => key 4 (by omega) _ _ (by omega) (by show _ = _; simp only; omega)) fun c4 => ?_
  refine dite_eq_of (fun c5 => key 5 (by omega) _ _ (by omega) (by show _ = _; simp only; omega)) fun c5 => ?_
  refine dite_eq_of (fun c6 => key 6 (by omega) _ _ (by omega) (by show _ = _; simp only; omega)) fun c6 => ?_
  exact key 7 (by omega) _ _ (by omega) (by show _ = _; simp only; omega)

theorem partV_apply (x : FVec Ideal S1x256x1024 .bf16) (q k v o : FVec Ideal S1024x1024 .bf16) (i : Fin 256) (n : Fin 1024) :
    partV x q k v o (ix2 i n) = ∑ c : Fin 1024, hdV (projV x (scaleV q)) (projV x k) (projV x v) (hdOf c) i (elOf c) * o (ix2 c n) := by
  pointwise [partV, attV_apply]

/-! ## The sum over the devices -/

variable (I : Ins Ideal)

theorem sh_injective (c : Dev nD) : Function.Injective fun zp : Fin 4 × Fin 4 => sh zp.1.val zp.2.val c := by
  revert c; decide +kernel

theorem outV_apply (c : Dev nD) (i : Fin 256) (n : Fin 1024) :
    outV I c (ix3 0 i n) = ∑ d : Dev nD, shareV I d c (ix2 i n) := by
  pointwise [outV, accV, zsV, rowV, psV, ptV]
  have e : ∀ a, a < 4 → sh (4 - a) 0 (sh a 0 c) = c := fun a ha => by
    rw [sh_sh, sh_mod, show (4 - a + a) % 4 = 0 by omega]; exact sh_zero c
  have e1 : sh 1 0 (sh 3 0 c) = c := e 3 (by omega)
  have e2 : sh 2 0 (sh 2 0 c) = c := e 2 (by omega)
  have e3 : sh 3 0 (sh 1 0 c) = c := e 1 (by omega)
  have e4 : ∀ p z, sh 0 p (sh z 0 c) = sh z p c := fun p z => by rw [sh_sh, Nat.zero_add, Nat.add_zero]
  rw [e1, e2, e3, sh_zero]
  simp only [e4]
  have hb : Function.Bijective fun zp : Fin 4 × Fin 4 => sh zp.1.val zp.2.val c :=
    (Fintype.bijective_iff_injective_and_card _).2 ⟨sh_injective c, by decide⟩
  rw [← hb.sum_comp fun d => shareV I d c (ix2 i n), Fintype.sum_prod_type]
  simp only [Fin.sum_univ_four]
  rw [show sh (0 : Fin 4).val (0 : Fin 4).val c = c from sh_zero c]
  show _ = shareV I c c (ix2 i n) + shareV I (sh 0 1 c) c (ix2 i n) + shareV I (sh 0 2 c) c (ix2 i n) + shareV I (sh 0 3 c) c (ix2 i n)
    + (shareV I (sh 1 0 c) c (ix2 i n) + shareV I (sh 1 1 c) c (ix2 i n) + shareV I (sh 1 2 c) c (ix2 i n) + shareV I (sh 1 3 c) c (ix2 i n))
    + (shareV I (sh 2 0 c) c (ix2 i n) + shareV I (sh 2 1 c) c (ix2 i n) + shareV I (sh 2 2 c) c (ix2 i n) + shareV I (sh 2 3 c) c (ix2 i n))
    + (shareV I (sh 3 0 c) c (ix2 i n) + shareV I (sh 3 1 c) c (ix2 i n) + shareV I (sh 3 2 c) c (ix2 i n) + shareV I (sh 3 3 c) c (ix2 i n))
  ac_rfl

theorem shareV_apply (d b : Dev nD) (i : Fin 256) (n : Fin 1024) : shareV I d b (ix2 i n)
    = ∑ c : Fin 1024, hdV (projV (I.x b) (scaleV (I.q d))) (projV (I.x b) (I.k d)) (projV (I.x b) (I.v d)) (hdOf c) i (elOf c) * I.o d (ix2 c n) := by
  have hx : xbV I b = I.x b := by
    funext j; idx_vars j; pointwise [xbV, k0_pay1]
  rw [shareV, partV_apply, hx]

end Cert.Mha

end
-- ==== Proof.Consts.lean ====
/-
The programs' float literals as extended reals.
-/
module

public import Idealize.ShloMosaic.PureOps.Ideal

@[expose] public section

noncomputable section

namespace Cert.Mha

open Idealize.ShloMosaic

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_128 : Ideal.ofBits .f32 0x43000000#32 = ((128 : ℝ) : EReal) := by
  simp [Ideal.ofBits, Ideal.ieee, -EReal.coe_mul]; norm_num

end Cert.Mha

end
-- ==== Proof.RefVal.lean ====
/-
The reference's value at an index, over the extended reals, stage by stage.
-/
module

public import proofs.«01_k».proof.Proof.Gen.ReferenceIdeal
public import proofs.«01_k».proof.Proof.Gen.ReferenceIdeal.Run
public import proofs.«01_k».proof.Proof.Consts
public import Idealize.ShloMosaic.Lib.Pointwise

@[expose] public section

set_option maxRecDepth 16384

noncomputable section

namespace Cert.MhaRef

open Cert.ReferenceIdeal Cert.ReferenceIdeal.Gen

open Idealize.ShloMosaic
open Idealize.ShloMosaic.TcCoe
open scoped BigOperators

/-- Column `e` of head `h` in the 16384. -/
def colG (h e : Fin 128) : Fin 16384 := ⟨h.val * 128 + e.val, by omega⟩

/-- A projection, by heads. -/
def projR (x : FVec Ideal S16x256x1024 .bf16) (w : FVec Ideal S1024x16384 .bf16) : FVec Ideal S16x256x128x128 .bf16 :=
  shapeCast _ (truncf .bf16 (Host.dotGeneral (φ₁ := .bf16) (φ₂ := .bf16) dot_S16x256x1024_S1024x16384_S16x256x16384_2_0_01_1_n_n none x w) bitsLt_bf16_f32)
    shapeCasts_S16x256x16384_S16x256x128x128

/-- The scores. -/
def scoreR (q k : FVec Ideal S16x256x128x128 .bf16) : FVec Ideal S16x128x256x256 .f32 :=
  Host.divf (Host.dotGeneral (φ₁ := .bf16) (φ₂ := .bf16) dot_S16x256x128x128_S16x256x128x128_S16x128x256x256_3_3_1_1_02_02 none q k)
    (broadcastInDim S16x128x256x256 ![] bcast_S_S16x128x256x256 (Host.sqrt (constant S_ .f32 0x43000000#32)))

/-- The running maximum: the row's, from `-∞`. -/
def maxR (s : FVec Ideal S16x128x256x256 .f32) : FVec Ideal S16x128x256x1 .f32 :=
  maximumf (broadcastInDim S16x128x256x1 ![] bcast_S_S16x128x256x1 (constant S_ .f32 0xFF800000#32))
    (broadcastInDim S16x128x256x1 ![0, 1, 2] bcast_S16x128x256_S16x128x256x1_0_1_2
      (Host.reduce FloatOps.maximumf s (constant S_ .f32 0xFF800000#32) reducesTo_S16x128x256x256_S16x128x256_d3 h_S_))

/-- What the earlier blocks' sums are scaled by. -/
def alphaR (M : FVec Ideal S16x128x256x1 .f32) : FVec Ideal S16x128x256x1 .f32 :=
  Host.exp (subf (broadcastInDim S16x128x256x1 ![] bcast_S_S16x128x256x1 (constant S_ .f32 0xFF800000#32)) M)

/-- The exponentials. -/
def expR (s : FVec Ideal S16x128x256x256 .f32) (M : FVec Ideal S16x128x256x1 .f32) : FVec Ideal S16x128x256x256 .f32 :=
  Host.exp (subf s (broadcastInDim S16x128x256x256 ![0, 1, 2, 3] bcast_S16x128x256x1_S16x128x256x256_0_1_2_3 M))

/-- The sum of the exponentials. -/
def lenR (a : FVec Ideal S16x128x256x1 .f32) (p : FVec Ideal S16x128x256x256 .f32) : FVec Ideal S16x128x256x1 .f32 :=
  addf (mulf (broadcastInDim S16x128x256x1 ![] bcast_S_S16x128x256x1 (constant S_ .f32 0x00000000#32)) a)
    (broadcastInDim S16x128x256x1 ![0, 1, 2] bcast_S16x128x256_S16x128x256x1_0_1_2
      (Host.reduceAdd p (constant S_ .f32 0x00000000#32) reducesTo_S16x128x256x256_S16x128x256_d3 h_S_))

/-- The sum of the exponentials times `V`. -/
def accR (a : FVec Ideal S16x128x256x1 .f32) (p : FVec Ideal S16x128x256x256 .f32) (v : FVec Ideal S16x256x128x128 .bf16) : FVec Ideal S16x256x128x128 .f32 :=
  addf (mulf (broadcastInDim S16x256x128x128 ![] bcast_S_S16x256x128x128 (constant S_ .f32 0x00000000#32))
      (broadcastInDim S16x256x128x128 ![0, 1, 2, 3] bcast_S16x256x128x1_S16x256x128x128_0_1_2_3 (transpose S16x256x128x1 [0, 2, 1, 3] a transposes_S16x128x256x1_S16x256x128x1_0_2_1_3)))
    (transpose S16x256x128x128 [0, 3, 1, 2] (Host.dotGeneral (φ₁ := .f32) (φ₂ := .f32) dot_S16x256x128x128_S16x128x256x256_S16x128x128x256_1_3_3_2_02_01 none
      (extf .f32 v bitsLt_bf16_f32) p) transposes_S16x128x128x256_S16x256x128x128_0_3_1_2)

/-- The attention. -/
def attR (s : FVec Ideal S16x128x256x256 .f32) (v : FVec Ideal S16x256x128x128 .bf16) : FVec Ideal S16x256x128x128 .f32 :=
  Host.divf (accR (alphaR (maxR s)) (expR s (maxR s)) v)
    (broadcastInDim S16x256x128x128 ![0, 1, 2, 3] bcast_S16x256x128x1_S16x256x128x128_0_1_2_3
      (transpose S16x256x128x1 [0, 2, 1, 3] (lenR (alphaR (maxR s)) (expR s (maxR s))) transposes_S16x128x256x1_S16x256x128x1_0_2_1_3))

/-- The result. -/
def outR (x : FVec Ideal S16x256x1024 .bf16) (wq wk wv : FVec Ideal S1024x16384 .bf16) (wo : FVec Ideal S16384x1024 .bf16) : FVec Ideal S16x256x1024 .f32 :=
  Host.dotGeneral (φ₁ := .f32) (φ₂ := .f32) dot_S16x256x16384_S16384x1024_S16x256x1024_2_0_01_1_n_n none
    (shapeCast S16x256x16384 (attR (scoreR (projR x wq) (projR x wk)) (projR x wv)) shapeCasts_S16x256x128x128_S16x256x16384)
    (extf .f32 wo bitsLt_bf16_f32)

theorem res_eq (m : (ℓ : Loc nD τ sig) → Buf (Elt Ideal) ℓ) (c : Dev nD) : Value.res_out0 m c
    = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem projR_apply (x : FVec Ideal S16x256x1024 .bf16) (w : FVec Ideal S1024x16384 .bf16) (b : Fin 16) (i : Fin 256) (h e : Fin 128) :
    projR x w (ix4 b i h e) = ∑ k : Fin 1024, x (ix3 b i k) * w (ix2 k (colG h e)) := by
  pointwise [projR, colG]

theorem scoreR_apply (q k : FVec Ideal S16x256x128x128 .bf16) (b : Fin 16) (h : Fin 128) (i j : Fin 256) :
    scoreR q k (ix4 b h i j) = Ideal.div (∑ e : Fin 128, q (ix4 b i h e) * k (ix4 b j h e)) ((Real.sqrt 128 : ℝ) : EReal) := by
  pointwise [scoreR]
  rw [Cert.Mha.ofBits_128, Ideal.sqrt_coe, if_neg (by norm_num)]

/-- The row's maximum. -/
theorem rowmax_apply (s : FVec Ideal S16x128x256x256 .f32) (z : FVec Ideal S_ .f32) (b : Fin 16) (h : Fin 128) (i : Fin 256) :
    Host.reduce FloatOps.maximumf s z reducesTo_S16x128x256x256_S16x128x256_d3 h_S_ (ix3 b h i)
      = Finset.univ.fold (FloatOps.maximumf (F := Ideal) (φ := .f32)) (z (Shape.Idx.first h_S_)) fun j : Fin 256 => s (ix4 b h i j) := by
  rw [Host.reduce_eq_fold, Shape.ReducesTo.fold_fiber_r4_a3]
  rfl

theorem bot_const : (constant S_ .f32 0xFF800000#32 : FVec Ideal S_ .f32) = fun _ => (⊥ : EReal) := funext fun _ => Cert.Mha.ofBits_neg_inf

theorem bmax_apply (r : FVec Ideal S16x128x256 .f32) (z : FVec Ideal S16x128x256x1 .f32) (b : Fin 16) (h : Fin 128) (i : Fin 256) :
    maximumf z (broadcastInDim S16x128x256x1 ![0, 1, 2] bcast_S16x128x256_S16x128x256x1_0_1_2 r) (ix4 b h i 0)
      = FloatOps.maximumf (F := Ideal) (φ := .f32) (z (ix4 b h i 0)) (r (ix3 b h i)) := by
  show FloatOps.maximumf (F := Ideal) (φ := .f32) _ (broadcastInDim S16x128x256x1 ![0, 1, 2] bcast_S16x128x256_S16x128x256x1_0_1_2 r (ix4 b h i 0)) = _
  congr 1
  pointwise

theorem maxR_apply (s : FVec Ideal S16x128x256x256 .f32) (b : Fin 16) (h : Fin 128) (i : Fin 256) :
    maxR s (ix4 b h i 0) = FloatOps.maximumf (F := Ideal) (φ := .f32) (⊥ : EReal)
      (Finset.univ.fold (FloatOps.maximumf (F := Ideal) (φ := .f32)) (⊥ : EReal) fun j : Fin 256 => s (ix4 b h i j)) := by
  rw [maxR, bot_const, bmax_apply, rowmax_apply]
  rfl

theorem alphaR_apply (M : FVec Ideal S16x128x256x1 .f32) (b : Fin 16) (h : Fin 128) (i : Fin 256) :
    alphaR M (ix4 b h i 0) = Ideal.exp (⊥ - M (ix4 b h i 0)) := by
  rw [alphaR, bot_const]
  pointwise

theorem expR_apply (s : FVec Ideal S16x128x256x256 .f32) (M : FVec Ideal S16x128x256x1 .f32) (b : Fin 16) (h : Fin 128) (i j : Fin 256) :
    expR s M (ix4 b h i j) = Ideal.exp (s (ix4 b h i j) - M (ix4 b h i 0)) := by
  pointwise [expR]

theorem lenR_apply (a : FVec Ideal S16x128x256x1 .f32) (p : FVec Ideal S16x128x256x256 .f32) (b : Fin 16) (h : Fin 128) (i : Fin 256) :
    lenR a p (ix4 b h i 0) = 0 * a (ix4 b h i 0) + ∑ j : Fin 256, p (ix4 b h i j) := by
  pointwise [lenR]

theorem accR_apply (a : FVec Ideal S16x128x256x1 .f32) (p : FVec Ideal S16x128x256x256 .f32) (v : FVec Ideal S16x256x128x128 .bf16)
    (b : Fin 16) (i : Fin 256) (h e : Fin 128) :
    accR a p v (ix4 b i h e) = 0 * a (ix4 b h i 0) + ∑ j : Fin 256, v (ix4 b j h e) * p (ix4 b h i j) := by
  pointwise [accR]

theorem attR_apply (s : FVec Ideal S16x128x256x256 .f32) (v : FVec Ideal S16x256x128x128 .bf16) (b : Fin 16) (i : Fin 256) (h e : Fin 128) :
    attR s v (ix4 b i h e) = Ideal.div (accR (alphaR (maxR s)) (expR s (maxR s)) v (ix4 b i h e)) (lenR (alphaR (maxR s)) (expR s (maxR s)) (ix4 b h i 0)) := by
  pointwise [attR]

theorem outR_apply (x : FVec Ideal S16x256x1024 .bf16) (wq wk wv : FVec Ideal S1024x16384 .bf16) (wo : FVec Ideal S16384x1024 .bf16)
    (b : Fin 16) (i : Fin 256) (n : Fin 1024) :
    outR x wq wk wv wo (ix3 b i n) = ∑ C : Fin 16384,
      attR (scoreR (projR x wq) (projR x wk)) (projR x wv) (ix4 b i ⟨C.val / 128, by omega⟩ ⟨C.val % 128, by omega⟩) * wo (ix2 C n) := by
  pointwise [outR]

end Cert.MhaRef

end
-- ==== Proof.Softmax.lean ====
/-
The two programs' attention of one row as extended reals: the quotient of the sums of the exponentials of the scores,
with or without the row's maximum subtracted, where the scores are real; and the scores, scaled in the weights or in
the product, where what they are made of is real.
-/
module

public import Idealize.ShloMosaic.PureOps.Ideal
public import Idealize.ShloMosaic.PureOps.Ideal.Laws
public import proofs.«01_k».proof.Proof.Consts

@[expose] public section

noncomputable section

namespace Cert.Mha

open Idealize.ShloMosaic
open scoped BigOperators

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a nonnegative real. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The maximum of reals, from `-∞`, is real. -/
theorem fold_max_real {ι : Type} (s : Finset ι) (f : ι → ℝ) (hs : s.Nonempty) :
    ∃ M : ℝ, s.fold (FloatOps.maximumf (F := Ideal) (φ := .f32)) (⊥ : EReal) (fun i => (f i : EReal)) = (M : EReal) := by
  classical
  induction hs using Finset.Nonempty.cons_induction with
  | singleton a => exact ⟨f a, by rw [Finset.fold_singleton]; exact max_bot_right _⟩
  | cons a s ha hs ih =>
    obtain ⟨M, hM⟩ := ih
    exact ⟨max (f a) M, by rw [Finset.fold_cons, hM]; exact (EReal.coe_strictMono.monotone.map_max).symm⟩

/-- The kernel's score, from `Wq` scaled, and the reference's, scaled after, are one real where `x`, `Wq` and `Wk` are. -/
theorem score_real {K E : Type} [Fintype K] [Fintype E] (xi xj : K → EReal) (q k : K → E → EReal)
    (hxi : ∀ a, ∃ r : ℝ, xi a = r) (hxj : ∀ a, ∃ r : ℝ, xj a = r) (hq : ∀ a e, ∃ r : ℝ, q a e = r) (hk : ∀ a e, ∃ r : ℝ, k a e = r) :
    ∃ s : ℝ, ∑ e, (∑ a, xi a * (q a e * (((Real.sqrt 128)⁻¹ : ℝ) : EReal))) * ∑ a, xj a * k a e = (s : EReal)
      ∧ Ideal.div (∑ e, (∑ a, xi a * q a e) * ∑ a, xj a * k a e) ((Real.sqrt 128 : ℝ) : EReal) = (s : EReal) := by
  choose xi' hxi using hxi
  choose xj' hxj using hxj
  choose q' hq using hq
  choose k' hk using hk
  have h0 : Real.sqrt 128 ≠ 0 := (Real.sqrt_pos.mpr (by norm_num)).ne'
  refine ⟨(∑ e, (∑ a, xi' a * q' a e) * ∑ a, xj' a * k' a e) * (1 / Real.sqrt 128), ?_, ?_⟩
  · simp only [hxi, hxj, hq, hk, ← EReal.coe_mul, ← coe_sum]
    congr 1
    rw [Finset.sum_mul]
    refine Finset.sum_congr rfl fun e _ => ?_
    rw [one_div, mul_right_comm]
    congr 1
    rw [Finset.sum_mul]
    exact Finset.sum_congr rfl fun a _ => (mul_assoc (xi' a) (q' a e) _).symm
  · rw [Ideal.div_coe h0]
    simp only [hxi, hxj, hq, hk, ← EReal.coe_mul, ← coe_sum]

/-- The softmax times `V`: the kernel's quotient is the reference's. -/
theorem softmax_eq {J : Type} [Fintype J] [Nonempty J] (s : J → ℝ) (v : J → EReal) (M : EReal)
    (hM : M = max ⊥ (Finset.univ.fold (FloatOps.maximumf (F := Ideal) (φ := .f32)) (⊥ : EReal) fun j => (s j : EReal))) :
    (∑ j, Ideal.exp (s j : EReal) * v j) * Ideal.div 1 (∑ j, Ideal.exp (s j : EReal))
      = Ideal.div (0 * Ideal.exp (⊥ - M) + ∑ j, v j * Ideal.exp ((s j : EReal) - M)) (0 * Ideal.exp (⊥ - M) + ∑ j, Ideal.exp ((s j : EReal) - M)) := by
  obtain ⟨N, hN⟩ := fold_max_real Finset.univ s Finset.univ_nonempty
  rw [hN, max_bot_left] at hM
  subst hM
  have hL : 0 < ∑ j, Real.exp (s j) := Finset.sum_pos (fun j _ => Real.exp_pos _) Finset.univ_nonempty
  have hE : 0 < Real.exp (-N) := Real.exp_pos _
  have e1 : ∀ j, Ideal.exp ((s j : EReal) - (N : EReal)) = ((Real.exp (s j) * Real.exp (-N) : ℝ) : EReal) := fun j => by
    rw [← EReal.coe_sub, Ideal.exp_coe, sub_eq_add_neg, Real.exp_add]
  have e2 : ∀ j, v j * ((Real.exp (s j) * Real.exp (-N) : ℝ) : EReal) = (((Real.exp (s j) : ℝ) : EReal) * v j) * ((Real.exp (-N) : ℝ) : EReal) := fun j => by
    rw [EReal.coe_mul, ← mul_assoc, mul_comm (v j)]
  simp only [e1, e2, Ideal.exp_coe, zero_mul, zero_add]
  rw [← sum_mul_coe _ _ _ hE.le, ← coe_sum, ← coe_sum, ← Finset.sum_mul, Ideal.div_coe hL.ne', Ideal.div_coe (mul_pos hL hE).ne', one_mul, mul_assoc,
    ← EReal.coe_mul]
  congr 2
  field_simp

end Cert.Mha

end
-- ==== Proof.Match.lean ====
/-
The kernel's result is the reference's, element by element: a device's eight heads are eight of the reference's 128,
and the sum over the devices of the sums over a device's 1024 columns is the sum over the 16384.
-/
module

public import proofs.«01_k».proof.Proof.KerVal
public import proofs.«01_k».proof.Proof.RefVal
public import proofs.«01_k».proof.Proof.Softmax

@[expose] public section

noncomputable section

namespace Cert.Mha

open Cert.MhaRef
open Idealize.ShloMosaic
open scoped BigOperators

/-- Column `n` of device `d` in the 16384, and head `h` of device `d` in the 128. -/
def gcol (d : Fin 16) (n : Fin 1024) : Fin 16384 := ⟨d.val * 1024 + n.val, by omega⟩
def ghd (d : Fin 16) (h : Fin 8) : Fin 128 := ⟨8 * d.val + h.val, by omega⟩

theorem gcol_colH (d : Fin 16) (h : Fin 8) (e : Fin 128) : gcol d (colH h e) = colG (ghd d h) e :=
  Fin.ext (by simp only [gcol, colH, colG, ghd]; omega)

/-- The devices' inputs are blocks of the reference's arrays. -/
structure Blocks (I : Ins Ideal) (X : FVec Ideal ⟨3, ![16, 256, 1024]⟩ .bf16) (Q K V : FVec Ideal ⟨2, ![1024, 16384]⟩ .bf16)
    (O : FVec Ideal ⟨2, ![16384, 1024]⟩ .bf16) : Prop where
  x : ∀ (c : Fin 16) i k, I.x c (ix3 0 i k) = X (ix3 c i k)
  q : ∀ (d : Fin 16) k n, I.q d (ix2 k n) = Q (ix2 k (gcol d n))
  k : ∀ (d : Fin 16) k n, I.k d (ix2 k n) = K (ix2 k (gcol d n))
  v : ∀ (d : Fin 16) k n, I.v d (ix2 k n) = V (ix2 k (gcol d n))
  o : ∀ (d : Fin 16) n j, I.o d (ix2 n j) = O (ix2 (gcol d n) j)

/-- What the scores are made of is real. -/
structure Reals (I : Ins Ideal) : Prop where
  x : ∀ (c : Fin 16) i k, ∃ r : ℝ, I.x c (ix3 0 i k) = ((r : ℝ) : EReal)
  q : ∀ (d : Fin 16) k n, ∃ r : ℝ, I.q d (ix2 k n) = ((r : ℝ) : EReal)
  k : ∀ (d : Fin 16) k n, ∃ r : ℝ, I.k d (ix2 k n) = ((r : ℝ) : EReal)

variable {I : Ins Ideal} {X : FVec Ideal ⟨3, ![16, 256, 1024]⟩ .bf16} {Q K V : FVec Ideal ⟨2, ![1024, 16384]⟩ .bf16}
  {O : FVec Ideal ⟨2, ![16384, 1024]⟩ .bf16}

/-- Row `i` and row `j` of batch `b` in head `h` of device `d`: one real score on both sides. -/
theorem score_eq (B : Blocks I X Q K V O) (R : Reals I) (b d : Fin 16) (h : Fin 8) (i j : Fin 256) :
    ∃ s : ℝ, (∑ e : Fin 128, projV (I.x b) (scaleV (I.q d)) (ix2 i (colH h e)) * projV (I.x b) (I.k d) (ix2 j (colH h e)) : EReal) = ((s : ℝ) : EReal)
      ∧ scoreR (projR X Q) (projR X K) (ix4 b (ghd d h) i j) = ((s : ℝ) : EReal) := by
  obtain ⟨s, h1, h2⟩ := score_real (fun a : Fin 1024 => I.x b (ix3 0 i a)) (fun a => I.x b (ix3 0 j a)) (fun a (e : Fin 128) => I.q d (ix2 a (colH h e)))
    (fun a e => I.k d (ix2 a (colH h e))) (R.x b i) (R.x b j) (fun a e => R.q d a _) (fun a e => R.k d a _)
  refine ⟨s, ?_, ?_⟩
  · simp only [projV_apply, scaleV_apply]
    exact h1
  · rw [scoreR_apply]
    simp only [projR_apply]
    simp only [B.x, B.q, B.k, gcol_colH] at h2
    exact h2

/-- Head `h` of device `d` at row `i` of batch `b` is the reference's head. -/
theorem head_eq (B : Blocks I X Q K V O) (R : Reals I) (b d : Fin 16) (h : Fin 8) (i : Fin 256) (e : Fin 128) :
    hdV (projV (I.x b) (scaleV (I.q d))) (projV (I.x b) (I.k d)) (projV (I.x b) (I.v d)) h i e
      = attR (scoreR (projR X Q) (projR X K)) (projR X V) (ix4 b i (ghd d h) e) := by
  choose s hk hr using score_eq B R b d h i
  have hv : ∀ j : Fin 256, projV (I.x b) (I.v d) (ix2 j (colH h e)) = projR X V (ix4 b j (ghd d h) e) := fun j => by
    rw [projV_apply, projR_apply]
    simp only [B.x, B.v, gcol_colH]
  rw [attR_apply, accR_apply, lenR_apply, hdV]
  simp only [hk, hv, alphaR_apply, expR_apply, hr]
  refine softmax_eq s _ _ ?_
  rw [maxR_apply]
  simp only [hr]
  rfl

/-- The sum over the 16384 columns, by devices. -/
theorem sum_cols (f : Fin 16384 → EReal) : ∑ C : Fin 16384, f C = ∑ d : Fin 16, ∑ n : Fin 1024, f (gcol d n) := by
  rw [← Fintype.sum_prod_type' (f := fun d n => f (gcol d n))]
  refine (Fintype.sum_equiv (finProdFinEquiv (m := 16) (n := 1024)) _ _ fun p => ?_).symm
  congr 1
  exact Fin.ext (by simp only [gcol, finProdFinEquiv_apply_val]; omega)

/-- The kernel's result on device `b` is block `b` of the reference's. -/
theorem out_eq (B : Blocks I X Q K V O) (R : Reals I) (b : Fin 16) (i : Fin 256) (n : Fin 1024) :
    outV I b (ix3 0 i n) = outR X Q K V O (ix3 b i n) := by
  rw [outV_apply, outR_apply, sum_cols]
  refine Finset.sum_congr rfl fun d _ => ?_
  rw [shareV_apply]
  refine Finset.sum_congr rfl fun c _ => ?_
  rw [head_eq B R, B.o]
  congr 2
  congr 1
  · exact Fin.ext (by simp only [ghd, hdOf, gcol]; omega)
  · exact Fin.ext (by simp only [elOf, gcol]; omega)

end Cert.Mha

end
-- ==== Proof.Algebraic.lean ====
/-
The algebraic claim: the kernel's run ends with the blocks of the reference's result.
-/
module

public import proofs.«01_k».proof.Proof.Frames
public import proofs.«01_k».proof.Proof.Match
public import Idealize.ShloMosaic.Lib.ReduceAll
public import Idealize.ShloMosaic.Lib.Pipeline.ValueKit.Geometry

@[expose] public section

noncomputable section

namespace Cert.Mha

open Cert.KernelIdeal Cert.KernelIdeal.Gen

open Idealize.ShloMosaic
open Idealize.ShloMosaic.TcCoe
open Idealize.SL.Sem
open Idealize.ShloMosaic.Pipeline (Dat Cfg Window)

/-! ## The precondition -/

instance preFactsK : Cert.Pre_scores_finite_KernelIdeal.Facts where
  bitsLt_bf16_f32 := by decide
  bcast_S_S1x256x1024 := by decide
  reducesTo_S1x256x1024_S_d0_1_2 := by decide
  h_S_ := by decide
  bcast_S_S1024x1024 := by decide
  reducesTo_S1024x1024_S_d0_1 := by decide

instance preFactsR : Cert.Pre_scores_finite_ReferenceIdeal.Facts where
  bitsLt_bf16_f32 := by decide
  bcast_S_S16x256x1024 := by decide
  reducesTo_S16x256x1024_S_d0_1_2 := by decide
  h_S_ := by decide
  bcast_S_S1024x16384 := by decide
  reducesTo_S1024x16384_S_d0_1 := by decide

/-- An extended real whose absolute value is less than `+∞` is real. -/
theorem real_of_lt (a : EReal) (h : Ideal.cmp .olt (max a (-a)) (Ideal.ofBits .f32 0x7F800000#32) = 1#1) : ∃ r : ℝ, a = (r : EReal) := by
  rw [ofBits_inf] at h
  have h' : max a (-a) < ⊤ := by
    by_contra hn
    rw [Ideal.cmp] at h
    simp [hn] at h
  induction a using EReal.rec with
  | bot => simp at h'
  | coe r => exact ⟨r, rfl⟩
  | top => simp at h'

/-- One array's part of the predicate. -/
theorem all_real {s : Shape} (x : FVec Ideal s .bf16) (hb : FTy.bits .bf16 < FTy.bits .f32) (hc : (⟨0, ![]⟩ : Shape).BroadcastsInDim s (![] : Fin 0 → Fin s.rank))
    {axes : List (Fin s.rank)} (hr : s.ReducesTo axes ⟨0, ![]⟩) (hu : 0 < (⟨0, ![]⟩ : Shape).numel) (init : IVec ⟨0, ![]⟩ 1) (j : (⟨0, ![]⟩ : Shape).Idx)
    (e : Host.reduce IntOp.andi (cmpf .olt (Host.absf (extf .f32 x hb)) (broadcastInDim s ![] hc (constant ⟨0, ![]⟩ .f32 0x7F800000#32))) init hr hu j = 1#1)
    (i : s.Idx) : ∃ r : ℝ, x i = ((r : ℝ) : EReal) := by
  haveI : Subsingleton (⟨0, ![]⟩ : Shape).Idx := ⟨fun a b => funext fun k => k.elim0⟩
  exact real_of_lt (x i) (Host.reduce_andi_all _ init hr hu j e i)

theorem pre_real (x : FVec Ideal S1x256x1024 .bf16) (q k v o : FVec Ideal S1024x1024 .bf16)
    (h : Cert.Pre_scores_finite_KernelIdeal.fn (F := Ideal) x q k v o = fun _ => 1#1) :
    (∀ i, ∃ r : ℝ, x i = ((r : ℝ) : EReal)) ∧ (∀ i, ∃ r : ℝ, q i = ((r : ℝ) : EReal)) ∧ ∀ i, ∃ r : ℝ, k i = ((r : ℝ) : EReal) := by
  have j : (⟨0, ![]⟩ : Shape).Idx := fun a => a.elim0
  obtain ⟨h1, h2⟩ := IntOp.andi_eq_one.1 (congrFun h j)
  obtain ⟨h3, h4⟩ := IntOp.andi_eq_one.1 h1
  exact ⟨all_real x _ _ _ _ _ j h3, all_real q _ _ _ _ _ j h4, all_real k _ _ _ _ _ j h2⟩

/-! ## What the run computes, of the memory it starts from -/

section
variable (m : (ℓ : Loc nD τ sig) → Buf (Elt Ideal) ℓ) (ρ : Dev nD → PrngReg)

theorem index_zero : ∀ (w : Fin cfg0.W) (a : Fin (cfg0.win w).shape.rank), (cfg0.win w).index t0_0 a = 0 := by decide +kernel

/-- Every window's one block lies at the array's origin. -/
theorem emb_val (w : Fin cfg0.W) (i) (a : Fin (cfg0.win w).shape.rank) : (((cfg0.win w).rect t0_0).emb i a).val = (i a).val :=
  Window.rect_emb_val_of_index_zero _ t0_0 a (index_zero w a) i

theorem insOf_x (c : Dev nD) : (insOf m).x c = m ((c.tc : Thread nD τ).loc main_arg0) :=
  funext fun i => congrArg (m ((c.tc : Thread nD τ).loc main_arg0)) (funext fun a => Fin.ext (emb_val (0 : Fin 6) i a))
theorem insOf_q (c : Dev nD) : (insOf m).q c = m ((c.tc : Thread nD τ).loc main_arg1) :=
  funext fun i => congrArg (m ((c.tc : Thread nD τ).loc main_arg1)) (funext fun a => Fin.ext (emb_val (1 : Fin 6) i a))
theorem insOf_k (c : Dev nD) : (insOf m).k c = m ((c.tc : Thread nD τ).loc main_arg2) :=
  funext fun i => congrArg (m ((c.tc : Thread nD τ).loc main_arg2)) (funext fun a => Fin.ext (emb_val (2 : Fin 6) i a))
theorem insOf_v (c : Dev nD) : (insOf m).v c = m ((c.tc : Thread nD τ).loc main_arg3) :=
  funext fun i => congrArg (m ((c.tc : Thread nD τ).loc main_arg3)) (funext fun a => Fin.ext (emb_val (3 : Fin 6) i a))
theorem insOf_o (c : Dev nD) : (insOf m).o c = m ((c.tc : Thread nD τ).loc main_arg4) :=
  funext fun i => congrArg (m ((c.tc : Thread nD τ).loc main_arg4)) (funext fun a => Fin.ext (emb_val (4 : Fin 6) i a))

theorem final_out (c : Dev nD) : (dats m ρ 0 c).arrAt (5 : Fin 6) cfg0.N = outV (insOf m) c :=
  Dat.arrAt_eq_of_after_last (dats m ρ 0 c) (5 : Fin 6) t0_0 (by decide +kernel) _ (fun j => rfl)

end

/-! ## The claim -/

/-- An index of one block along the first of three axes, of two, and along the second of two. -/
theorem block_x {α : Type} {X : (⟨3, ![16, 256, 1024]⟩ : Shape).Idx → α} (c : Fin 16) (i : Fin 256) (k : Fin 1024) :
    Layout.block ⟨3, ![1, 256, 1024]⟩ ⟨3, ![16, 256, 1024]⟩ 0 16 c X (by decide) (ix3 0 i k) = X (ix3 c i k) := by
  refine congrArg X (funext fun a => Fin.ext ?_)
  rw [Layout.Tiles.idx_val]
  fin_cases a <;> simp

theorem block_col {W : FVec Ideal ⟨2, ![1024, 16384]⟩ .bf16} (d : Fin 16) (k n : Fin 1024) :
    Layout.block ⟨2, ![1024, 1024]⟩ ⟨2, ![1024, 16384]⟩ 1 16 d W (by decide) (ix2 k n) = W (ix2 k (gcol d n)) := by
  refine congrArg W (funext fun a => Fin.ext ?_)
  rw [Layout.Tiles.idx_val]
  fin_cases a <;> simp [gcol]

theorem block_row {W : FVec Ideal ⟨2, ![16384, 1024]⟩ .bf16} (d : Fin 16) (n j : Fin 1024) :
    Layout.block ⟨2, ![1024, 1024]⟩ ⟨2, ![16384, 1024]⟩ 0 16 d W (by decide) (ix2 n j) = W (ix2 (gcol d n) j) := by
  refine congrArg W (funext fun a => Fin.ext ?_)
  rw [Layout.Tiles.idx_val]
  fin_cases a <;> simp [gcol]

theorem out_fun {I : Ins Ideal} {X : FVec Ideal ⟨3, ![16, 256, 1024]⟩ .bf16} {Q K V : FVec Ideal ⟨2, ![1024, 16384]⟩ .bf16}
    {O : FVec Ideal ⟨2, ![16384, 1024]⟩ .bf16} (B : Blocks I X Q K V O) (R : Reals I) (c : Fin 16) :
    outV I c = Layout.block ⟨3, ![1, 256, 1024]⟩ ⟨3, ![16, 256, 1024]⟩ 0 16 c (Cert.MhaRef.outR X Q K V O) (by decide) := by
  have key : ∀ (i : Fin 256) (n : Fin 1024), outV I c (ix3 0 i n)
      = Layout.block ⟨3, ![1, 256, 1024]⟩ ⟨3, ![16, 256, 1024]⟩ 0 16 c (Cert.MhaRef.outR X Q K V O) (by decide) (ix3 0 i n) :=
    fun i n => (out_eq B R c i n).trans (block_x c i n).symm
  funext j
  have hj : j = ix3 0 (j 1) (j 2) := funext fun a => Fin.ext (by fin_cases a <;> first | rfl | exact Nat.lt_one_iff.1 (j 0).isLt)
  rw [hj]
  exact key _ _

theorem algebraic : Cert.algebraic_KernelIdeal_ReferenceIdeal_pre_scores_finite_KernelIdeal := by
  intro m g m' g' hpre hargs
  have B : Blocks (insOf m) (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3))
      (m' ((0 : Dev Cert.ReferenceIdeal.nD).tc.loc Cert.ReferenceIdeal.main_arg4)) :=
    { x := fun c i k => (congrFun ((insOf_x m c).trans (hargs c).1) _).trans (block_x c i k)
      q := fun d k n => (congrFun ((insOf_q m d).trans (hargs d).2.1) _).trans (block_col d k n)
      k := fun d k n => (congrFun ((insOf_k m d).trans (hargs d).2.2.1) _).trans (block_col d k n)
      v := fun d k n => (congrFun ((insOf_v m d).trans (hargs d).2.2.2.1) _).trans (block_col d k n)
      o := fun d n j => (congrFun ((insOf_o m d).trans (hargs d).2.2.2.2) _).trans (block_row d n j) }
  have R : Reals (insOf m) :=
    { x := fun c i k => insOf_x m c ▸ (pre_real _ _ _ _ _ (hpre c)).1 _
      q := fun d k n => insOf_q m d ▸ (pre_real _ _ _ _ _ (hpre d)).2.1 _
      k := fun d k n => insOf_k m d ▸ (pre_real _ _ _ _ _ (hpre d)).2.2 _ }
  refine ⟨Cert.MhaRef.outR (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3))
      (m' ((0 : Dev Cert.ReferenceIdeal.nD).tc.loc Cert.ReferenceIdeal.main_arg4)), ?_, ?_⟩
  · refine (θ_run Cert.KernelIdeal.defs _ _).mono (fun r h c => ⟨?_, (h.1 c).2⟩) (run_post (F := Ideal) m g)
    rw [(h.1 c).1, final_out]
    exact out_fun B R c
  · exact (θ_run Cert.ReferenceIdeal.defs _ _).mono (fun r h => ⟨(h 0).1.trans (Cert.MhaRef.res_eq m' 0), (h 0).2⟩)
      (Cert.ReferenceIdeal.Value.run (F := Ideal) m' g')

end Cert.Mha

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Cert.Mha

theorem claim : Cert.Claim :=
  ⟨Cert.Kernel.Gen.facts, Cert.KernelIdeal.Gen.facts, Cert.ReferenceIdeal.Gen.facts, preFactsK, preFactsR,
    frame_kernel, frame_ideal, fun m g _ => frame_ideal m g trivial, frame_reference, fun m g _ => frame_reference m g trivial,
    preserves_kernel, algebraic⟩

end Cert.Proof

end
